-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_distinct [hPre_nearest_distinct : Cert.Pre_nearest_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_distinct [hPre_nearest_distinct : Cert.Pre_nearest_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_nearest_distinct [hKernelIdeal : Cert.KernelIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_nearest_distinct [hReferenceIdeal : Cert.ReferenceIdeal.Facts] [hPre_nearest_distinct : Cert.Pre_nearest_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_nearest_distinct [hKernelIdeal : Cert.KernelIdeal.Facts] [hReferenceIdeal : Cert.ReferenceIdeal.Facts] [hPre_nearest_distinct : Cert.Pre_nearest_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_nearest_distinct : Cert.Pre_nearest_distinct.Facts),
    quiescent_Kernel (hKernel := hKernel)
    ∧ quiescent_KernelIdeal (hKernelIdeal := hKernelIdeal)
    ∧ quiescent_KernelIdeal_pre_nearest_distinct (hKernelIdeal := hKernelIdeal) (hPre_nearest_distinct := hPre_nearest_distinct)
    ∧ quiescent_ReferenceIdeal (hReferenceIdeal := hReferenceIdeal)
    ∧ quiescent_ReferenceIdeal_pre_nearest_distinct (hReferenceIdeal := hReferenceIdeal) (hPre_nearest_distinct := hPre_nearest_distinct)
    ∧ preserves_Kernel_KernelIdeal
    ∧ algebraic_KernelIdeal_ReferenceIdeal_pre_nearest_distinct (hKernelIdeal := hKernelIdeal) (hReferenceIdeal := hReferenceIdeal) (hPre_nearest_distinct := hPre_nearest_distinct)
-- ==== Pre_nearest_distinct.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x256x1024 : Shape := ⟨3, ![16, 256, 1024]⟩
abbrev S256x512 : Shape := ⟨2, ![256, 512]⟩
abbrev S256 : Shape := ⟨1, ![256]⟩
abbrev S256x256 : Shape := ⟨2, ![256, 256]⟩
abbrev S16x4096x1x3 : Shape := ⟨4, ![16, 4096, 1, 3]⟩
abbrev S16x1x1024x3 : Shape := ⟨4, ![16, 1, 1024, 3]⟩
abbrev S16x4096x1024x3 : Shape := ⟨4, ![16, 4096, 1024, 3]⟩
abbrev S_ : Shape := ⟨0, ![]⟩
abbrev S16x4096x1024 : Shape := ⟨3, ![16, 4096, 1024]⟩
abbrev S16x4096x4 : Shape := ⟨3, ![16, 4096, 4]⟩

class Facts : Prop where
  bcast_S16x4096x3_S16x4096x1x3_0_1_3 : S16x4096x3.BroadcastsInDim S16x4096x1x3 (![0, 1, 3] : Fin 3 → Fin S16x4096x1x3.rank)
  bcast_S16x1024x3_S16x1x1024x3_0_2_3 : S16x1024x3.BroadcastsInDim S16x1x1024x3 (![0, 2, 3] : Fin 3 → Fin S16x1x1024x3.rank)
  bcast_S16x4096x1x3_S16x4096x1024x3_0_1_2_3 : S16x4096x1x3.BroadcastsInDim S16x4096x1024x3 (![0, 1, 2, 3] : Fin 4 → Fin S16x4096x1024x3.rank)
  bcast_S16x1x1024x3_S16x4096x1024x3_0_1_2_3 : S16x1x1024x3.BroadcastsInDim S16x4096x1024x3 (![0, 1, 2, 3] : Fin 4 → Fin S16x4096x1024x3.rank)
  reducesTo_S16x4096x1024x3_S16x4096x1024_d3 : S16x4096x1024x3.ReducesTo [3] S16x4096x1024
  h_S_ : 0 < S_.numel
  sliceFits_S16x4096x1024_S16x4096x4 : S16x4096x1024.Slices (fun _ => 0) S16x4096x4
  slices_S16x4096x4_S16x4096x3_0_0_1 : S16x4096x4.Slices ![0, 0, 1] S16x4096x3
  slices_S16x4096x4_S16x4096x3_0_0_0 : S16x4096x4.Slices ![0, 0, 0] S16x4096x3
  reducesTo_S16x4096x3_S_d0_1_2 : S16x4096x3.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v16 : IVec S_ 1) (main_v17 : FVec F S256 .f32) : IVec S_ 1 :=
  let main_cst_2 : FVec F S_ .f32 := constant S_ .f32 0x7F800000#32
  let main_v18 : FVec F S256 .f32 := broadcastInDim S256 ![] bcast_S_S256 main_cst_2
  let main_v19 : IVec S256 1 := cmpf .olt main_v17 main_v18
  let main_c_3 : IVec S_ 1 := constantI S_ 1 1#1
  let main_v20 : IVec S_ 1 := (fun x v => Host.reduce IntOp.andi x v reducesTo_S256_S_d0 h_S_) main_v19 main_c_3
  let main_v21 : IVec S_ 1 := andi main_v16 main_v20
  main_v21

def fn {F : FTy → Type} [FloatOps F] (main_arg0 : FVec F S16x4096x3 .f32) (main_arg1 : FVec F S16x1024x3 .f32) (main_arg2 : FVec F S16x256x4096 .f32) (main_arg3 : FVec F S16x256x1024 .f32) (main_arg4 : FVec F S256x512 .f32) (main_arg5 : FVec F S256 .f32) (main_arg6 : FVec F S256 .f32) (main_arg7 : FVec F S256 .f32) (main_arg8 : FVec F S256x256 .f32) (main_arg9 : FVec F S256 .f32) (main_arg10 : FVec F S256 .f32) (main_arg11 : FVec F S256 .f32) : IVec S_ 1 :=
  let main_v0 : FVec F S16x4096x1x3 .f32 := broadcastInDim S16x4096x1x3 ![0, 1, 3] bcast_S16x4096x3_S16x4096x1x3_0_1_3 main_arg0
  let main_v1 : FVec F S16x1x1024x3 .f32 := broadcastInDim S16x1x1024x3 ![0, 2, 3] bcast_S16x1024x3_S16x1x1024x3_0_2_3 main_arg1
  let main_v2 : FVec F S16x4096x1024x3 .f32 := broadcastInDim S16x4096x1024x3 ![0, 1, 2, 3] bcast_S16x4096x1x3_S16x4096x1024x3_0_1_2_3 main_v0
  let main_v3 : FVec F S16x4096x1024x3 .f32 := broadcastInDim S16x4096x1024x3 ![0, 1, 2, 3] bcast_S16x1x1024x3_S16x4096x1024x3_0_1_2_3 main_v1
  let main_v4 : FVec F S16x4096x1024x3 .f32 := subf main_v2 main_v3
  let main_v5 : FVec F S16x4096x1024x3 .f32 := mulf main_v4 main_v4
  let main_cst : FVec F S_ .f32 := constant S_ .f32 0x00000000#32
  let main_v6 : FVec F S16x4096x1024 .f32 := (fun x v => Host.reduceAdd x v reducesTo_S16x4096x1024x3_S16x4096x1024_d3 h_S_) main_v5 main_cst
  let main_v7 : FVec F S16x4096x1024 .f32 := Host.negf main_v6
  let main_values : FVec F S16x4096x4 .f32 := (fun x => (Host.topK S16x4096x4 2 (FloatOps.cmpfTotal .gt) x sliceFits_S16x4096x1024_S16x4096x4).1) main_v7
  let main_indices : IVec S16x4096x4 32 := (fun x => (Host.topK S16x4096x4 2 (FloatOps.cmpfTotal .gt) x sliceFits_S16x4096x1024_S16x4096x4).2) main_v7
  let main_v8 : FVec F S16x4096x3 .f32 := (extractStridedSlice S16x4096x3 ![0, 0, 1] · slices_S16x4096x4_S16x4096x3_0_0_1) main_values
  let main_v9 : FVec F S16x4096x3 .f32 := (extractStridedSlice S16x4096x3 ![0, 0, 0] · slices_S16x4096x4_S16x4096x3_0_0_0) main_values
  let main_v10 : IVec S16x4096x3 1 := cmpf .olt main_v8 main_v9
  let main_c : IVec S_ 1 := constantI S_ 1 1#1
  let main_v11 : IVec S_ 1 := (fun x v => Host.reduce IntOp.andi x v reducesTo_S16x4096x3_S_d0_1_2 h_S_) main_v10 main_c
  let main_v12 : FVec F S256 .f32 := Host.absf main_arg6
  let main_cst_0 : FVec F S_ .f32 := constant S_ .f32 0x7F800000#32
  let main_v13 : FVec F S256 .f32 := broadcastInDim S256 ![] bcast_S_S256 main_cst_0
  let main_v14 : IVec S256 1 := cmpf .olt main_v12 main_v13
  let main_c_1 : IVec S_ 1 := constantI S_ 1 1#1
  let main_v15 : IVec S_ 1 := (fun x v => Host.reduce IntOp.andi x v reducesTo_S256_S_d0 h_S_) main_v14 main_c_1
  let main_v16 : IVec S_ 1 := andi main_v11 main_v15
  let main_v17 : FVec F S256 .f32 := Host.absf main_arg10
  fn_part1 (F := F) main_v16 main_v17
-- ==== Kernel.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x256x1024 : Shape := ⟨3, ![16, 256, 1024]⟩
abbrev S256x512 : Shape := ⟨2, ![256, 512]⟩
abbrev S256 : Shape := ⟨1, ![256]⟩
abbrev S256x256 : Shape := ⟨2, ![256, 256]⟩
abbrev S16x3x1024 : Shape := ⟨3, ![16, 3, 1024]⟩
abbrev S256x1 : Shape := ⟨2, ![256, 1]⟩
abbrev S1x256 : Shape := ⟨2, ![1, 256]⟩
abbrev S1x4096x3 : Shape := ⟨3, ![1, 4096, 3]⟩
abbrev S1x3x1024 : Shape := ⟨3, ![1, 3, 1024]⟩
abbrev S1x256x4096 : Shape := ⟨3, ![1, 256, 4096]⟩
abbrev S1x256x1024 : Shape := ⟨3, ![1, 256, 1024]⟩
abbrev S4096x3 : Shape := ⟨2, ![4096, 3]⟩
abbrev S3x1024 : Shape := ⟨2, ![3, 1024]⟩
abbrev S4096x1 : Shape := ⟨2, ![4096, 1]⟩
abbrev S1x1024 : Shape := ⟨2, ![1, 1024]⟩
abbrev S4096x1024 : Shape := ⟨2, ![4096, 1024]⟩
abbrev S4096 : Shape := ⟨1, ![4096]⟩
abbrev S256x1024 : Shape := ⟨2, ![256, 1024]⟩
abbrev S256x4096 : Shape := ⟨2, ![256, 4096]⟩
abbrev S_ : Shape := ⟨0, ![]⟩

abbrev nBuf : Space → Nat
  | .hbm => 60
  | .vmem => 30
  | .smem => 0
  | _ => 0

abbrev bufTy : (tb : Table) → Fin (tcTables nBuf tb) → BufTy
  | .hbm, ⟨0, _⟩ => ⟨S16x4096x3, .f32⟩
  | .hbm, ⟨1, _⟩ => ⟨S16x1024x3, .f32⟩
  | .hbm, ⟨2, _⟩ => ⟨S16x256x4096, .f32⟩
  | .hbm, ⟨3, _⟩ => ⟨S16x256x1024, .f32⟩
  | .hbm, ⟨4, _⟩ => ⟨S256x512, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S16x3x1024, .f32⟩
  | .hbm, ⟨13, _⟩ => ⟨S256x1, .f32⟩
  | .hbm, ⟨14, _⟩ => ⟨S16x256x4096, .bf16⟩
  | .hbm, ⟨15, _⟩ => ⟨S1x256, .f32⟩
  | .hbm, ⟨16, _⟩ => ⟨S1x256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S16x256x4096, .bf16⟩
  | .hbm, ⟨38, _⟩ => ⟨S1x256, .f32⟩
  | .hbm, ⟨39, _⟩ => ⟨S1x256, .f32⟩
  | .hbm, ⟨40, _⟩ => ⟨S256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S256x1, .f32⟩
  | .hbm, ⟨58, _⟩ => ⟨S256x1, .f32⟩
  | .hbm, ⟨59, _⟩ => ⟨S16x256x4096, .f32⟩
  | .local _ .vmem, ⟨0, _⟩ => ⟨S1x4096x3, .f32⟩
  | .local _ .vmem, ⟨1, _⟩ => ⟨S1x4096x3, .f32⟩
  | .local _ .vmem, ⟨2, _⟩ => ⟨S1x3x1024, .f32⟩
  | .local _ .vmem, ⟨3, _⟩ => ⟨S1x3x1024, .f32⟩
  | .local _ .vmem, ⟨4, _⟩ => ⟨S1x256x4096, .f32⟩
  | .local _ .vmem, ⟨5, _⟩ => ⟨S1x256x4096, .f32⟩
  | .local _ .vmem, ⟨6, _⟩ => ⟨S1x256x1024, .f32⟩
  | .local _ .vmem, ⟨7, _⟩ => ⟨S1x256x1024, .f32⟩
  | .local _ .vmem, ⟨8, _⟩ => ⟨S256x512, .f32⟩
  | .local _ .vmem, ⟨9, _⟩ => ⟨S256x1, .f32⟩
  | .local _ .vmem, ⟨10, _⟩ => ⟨S1x256x4096, .bf16⟩
  | .local _ .vmem, ⟨11, _⟩ => ⟨S1x256x4096, .bf16⟩
  | .local _ .vmem, ⟨12, _⟩ => ⟨S1x256, .f32⟩
  | .local _ .vmem, ⟨13, _⟩ => ⟨S1x256, .f32⟩
  | .local _ .vmem, ⟨14, _⟩ => ⟨S1x256x4096, .bf16⟩
  | .local _ .vmem, ⟨15, _⟩ => ⟨S1x256x4096, .bf16⟩
  | .local _ .vmem, ⟨16, _⟩ => ⟨S256x256, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S1x256x4096, .bf16⟩
  | .local _ .vmem, ⟨21, _⟩ => ⟨S1x256x4096, .bf16⟩
  | .local _ .vmem, ⟨22, _⟩ => ⟨S1x256, .f32⟩
  | .local _ .vmem, ⟨23, _⟩ => ⟨S1x256, .f32⟩
  | .local _ .vmem, ⟨24, _⟩ => ⟨S1x256x4096, .bf16⟩
  | .local _ .vmem, ⟨25, _⟩ => ⟨S1x256x4096, .bf16⟩
  | .local _ .vmem, ⟨26, _⟩ => ⟨S256x1, .f32⟩
  | .local _ .vmem, ⟨27, _⟩ => ⟨S256x1, .f32⟩
  | .local _ .vmem, ⟨28, _⟩ => ⟨S1x256x4096, .f32⟩
  | .local _ .vmem, ⟨29, _⟩ => ⟨S1x256x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_v20_2 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg7_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem7_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev grid1 : Pipeline.Grid := ⟨2, ![16, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨2, ![16, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S16x4096x3 : Shape := ⟨3, ![16, 4096, 3]⟩
abbrev S16x1024x3 : Shape := ⟨3, ![16, 1024, 3]⟩
abbrev S16x256x4096 : Shape := ⟨3, ![16, 256, 4096]⟩
abbrev S16x256x1024 : Shape := ⟨3, ![16, 256, 1024]⟩
abbrev S256x512 : Shape := ⟨2, ![256, 512]⟩
abbrev S256 : Shape := ⟨1, ![256]⟩
abbrev S256x256 : Shape := ⟨2, ![256, 256]⟩
abbrev S16x4096x1x3 : Shape := ⟨4, ![16, 4096, 1, 3]⟩
abbrev S16x1x1024x3 : Shape := ⟨4, ![16, 1, 1024, 3]⟩
abbrev S16x4096x1024x3 : Shape := ⟨4, ![16, 4096, 1024, 3]⟩
abbrev S_ : Shape := ⟨0, ![]⟩
abbrev S16x4096x1024 : Shape := ⟨3, ![16, 4096, 1024]⟩
abbrev S16x4096 : Shape := ⟨2, ![16, 4096]⟩
abbrev S16x4096x1 : Shape := ⟨3, ![16, 4096, 1]⟩
abbrev S16x1024x256 : Shape := ⟨3, ![16, 1024, 256]⟩
abbrev S16 : Shape := ⟨1, ![16]⟩
abbrev S16x1x1 : Shape := ⟨3, ![16, 1, 1]⟩
abbrev S16x4096x3x1 : Shape := ⟨4, ![16, 4096, 3, 1]⟩
abbrev S16x4096x3x2 : Shape := ⟨4, ![16, 4096, 3, 2]⟩
abbrev S16x4096x3x256 : Shape := ⟨4, ![16, 4096, 3, 256]⟩
abbrev S16x4096x256 : Shape := ⟨3, ![16, 4096, 256]⟩
abbrev S16x512x4096 : Shape := ⟨3, ![16, 512, 4096]⟩
abbrev S1x256x1 : Shape := ⟨3, ![1, 256, 1]⟩

abbrev nBuf : Space → Nat
  | .hbm => 169
  | .vmem => 0
  | .smem => 0
  | _ => 0

abbrev hbmTy0_0 (i : Nat) : BufTy := match i % 128 with
  | 0 => ⟨S16x4096x3, .f32⟩
  | 1 => ⟨S16x1024x3, .f32⟩
  | 2 => ⟨S16x256x4096, .f32⟩
  | 3 => ⟨S16x256x1024, .f32⟩
  | 4 => ⟨S256x512, .f32⟩
  | 5 => ⟨S256, .f32⟩
  | 6 => ⟨S256, .f32⟩
  | 7 => ⟨S256, .f32⟩
  | 8 => ⟨S256x256, .f32⟩
  | 9 => ⟨S256, .f32⟩
  | 10 => ⟨S256, .f32⟩
  | 11 => ⟨S256, .f32⟩
  | 12 => ⟨S16x4096x1x3, .f32⟩
  | 13 => ⟨S16x1x1024x3, .f32⟩
  | 14 => ⟨S16x4096x1024x3, .f32⟩
  | 15 => ⟨S16x4096x1024x3, .f32⟩
  | 16 => ⟨S16x4096x1024x3, .f32⟩
  | 17 => ⟨S16x4096x1024x3, .f32⟩
  | 18 => ⟨S_, .f32⟩
  | 19 => ⟨S16x4096x1024, .f32⟩
  | 20 => ⟨S16x4096x1024, .f32⟩
  | 21 => ⟨S16x4096x3, .f32⟩
  | 22 => ⟨S16x4096x3, .i32⟩
  | 23 => ⟨S16x4096x3, .f32⟩
  | 24 => ⟨S_, .f32⟩
  | 25 => ⟨S16x4096x3, .f32⟩
  | 26 => ⟨S16x4096x3, .f32⟩
  | 27 => ⟨S16x4096x3, .f32⟩
  | 28 => ⟨S_, .f32⟩
  | 29 => ⟨S16x4096x3, .f32⟩
  | 30 => ⟨S16x4096x3, .f32⟩
  | 31 => ⟨S_, .f32⟩
  | 32 => ⟨S16x4096, .f32⟩
  | 33 => ⟨S16x4096x1, .f32⟩
  | 34 => ⟨S16x4096x3, .f32⟩
  | 35 => ⟨S16x4096x3, .f32⟩
  | 36 => ⟨S16x1024x256, .f32⟩
  | 37 => ⟨S16, .i32⟩
  | 38 => ⟨S16x1x1, .i32⟩
  | 39 => ⟨S_, .i32⟩
  | 40 => ⟨S16x1x1, .i32⟩
  | 41 => ⟨S16x1x1, .i1⟩
  | 42 => ⟨S_, .i32⟩
  | 43 => ⟨S16x1x1, .i32⟩
  | 44 => ⟨S16x1x1, .i32⟩
  | 45 => ⟨S16x1x1, .i32⟩
  | 46 => ⟨S_, .i32⟩
  | 47 => ⟨S16x4096x3, .i32⟩
  | 48 => ⟨S16x4096x3, .i1⟩
  | 49 => ⟨S_, .i32⟩
  | 50 => ⟨S16x4096x3, .i32⟩
  | 51 => ⟨S16x4096x3, .i32⟩
  | 52 => ⟨S16x4096x3, .i32⟩
  | 53 => ⟨S16x4096x3, .i32⟩
  | 54 => ⟨S16x4096x3x1, .i32⟩
  | 55 => ⟨S16x4096x3x1, .i32⟩
  | 56 => ⟨S16x4096x3x2, .i32⟩
  | 57 => ⟨S16x4096x3x256, .f32⟩
  | 58 => ⟨S16x4096x3x1, .f32⟩
  | 59 => ⟨S16x4096x3x256, .f32⟩
  | 60 => ⟨S16x4096x3x256, .f32⟩
  | 61 => ⟨S_, .f32⟩
  | 62 => ⟨S16x4096x256, .f32⟩
  | 63 => ⟨S16x256x4096, .f32⟩
  | 64 => ⟨S16x512x4096, .f32⟩
  | 65 => ⟨S16x4096x256, .f32⟩
  | 66 => ⟨S16x256x4096, .f32⟩
  | 67 => ⟨S1x256x1, .f32⟩
  | 68 => ⟨S16x256x4096, .f32⟩
  | 69 => ⟨S16x256x4096, .f32⟩
  | 70 => ⟨S_, .f32⟩
  | 71 => ⟨S256, .f32⟩
  | 72 => ⟨S1x256x1, .f32⟩
  | 73 => ⟨S_, .f32⟩
  | 74 => ⟨S1x256x1, .f32⟩
  | 75 => ⟨S1x256x1, .f32⟩
  | 76 => ⟨S_, .i32⟩
  | 77 => ⟨S_, .f32⟩
  | 78 => ⟨S256, .f32⟩
  | 79 => ⟨S1x256x1, .f32⟩
  | 80 => ⟨S_, .f32⟩
  | 81 => ⟨S1x256x1, .f32⟩
  | 82 => ⟨S1x256x1, .f32⟩
  | 83 => ⟨S16x256x4096, .f32⟩
  | 84 => ⟨S16x256x4096, .f32⟩
  | 85 => ⟨S16x256x4096, .f32⟩
  | 86 => ⟨S_, .f32⟩
  | 87 => ⟨S_, .f32⟩
  | 88 => ⟨S_, .f32⟩
  | 89 => ⟨S_, .f32⟩
  | 90 => ⟨S256, .f32⟩
  | 91 => ⟨S1x256x1, .f32⟩
  | 92 => ⟨S1x256x1, .f32⟩
  | 93 => ⟨S1x256x1, .f32⟩
  | 94 => ⟨S_, .f32⟩
  | 95 => ⟨S_, .i1⟩
  | 96 => ⟨S_, .f32⟩
  | 97 => ⟨S_, .f32⟩
  | 98 => ⟨S1x256x1, .f32⟩
  | 99 => ⟨S1x256x1, .f32⟩
  | 100 => ⟨S16x256x4096, .f32⟩
  | 101 => ⟨S16x256x4096, .f32⟩
  | 102 => ⟨S_, .f32⟩
  | 103 => ⟨S1x256x1, .f32⟩
  | 104 => ⟨S1x256x1, .f32⟩
  | 105 => ⟨S1x256x1, .f32⟩
  | 106 => ⟨S16x256x4096, .f32⟩
  | 107 => ⟨S16x256x4096, .f32⟩
  | 108 => ⟨S1x256x1, .f32⟩
  | 109 => ⟨S16x256x4096, .f32⟩
  | 110 => ⟨S16x256x4096, .f32⟩
  | 111 => ⟨S1x256x1, .f32⟩
  | 112 => ⟨S16x256x4096, .f32⟩
  | 113 => ⟨S16x256x4096, .f32⟩
  | 114 => ⟨S_, .f32⟩
  | 115 => ⟨S16x256x4096, .f32⟩
  | 116 => ⟨S16x256x4096, .f32⟩
  | 117 => ⟨S16x4096x256, .f32⟩
  | 118 => ⟨S16x256x4096, .f32⟩
  | 119 => ⟨S1x256x1, .f32⟩
  | 120 => ⟨S16x256x4096, .f32⟩
  | 121 => ⟨S16x256x4096, .f32⟩
  | 122 => ⟨S_, .f32⟩
  | 123 => ⟨S256, .f32⟩
  | 124 => ⟨S1x256x1, .f32⟩
  | 125 => ⟨S_, .f32⟩
  | 126 => ⟨S1x256x1, .f32⟩
  | 127 => ⟨S1x256x1, .f32⟩
  | _ => ⟨S16x4096x3, .f32⟩

abbrev hbmTy0_1 (i : Nat) : BufTy := match i % 128 with
  | 0 => ⟨S_, .i32⟩
  | 1 => ⟨S_, .f32⟩
  | 2 => ⟨S256, .f32⟩
  | 3 => ⟨S1x256x1, .f32⟩
  | 4 => ⟨S_, .f32⟩
  | 5 => ⟨S1x256x1, .f32⟩
  | 6 => ⟨S1x256x1, .f32⟩
  | 7 => ⟨S16x256x4096, .f32⟩
  | 8 => ⟨S16x256x4096, .f32⟩
  | 9 => ⟨S16x256x4096, .f32⟩
  | 10 => ⟨S_, .f32⟩
  | 11 => ⟨S_, .f32⟩
  | 12 => ⟨S_, .f32⟩
  | 13 => ⟨S_, .f32⟩
  | 14 => ⟨S256, .f32⟩
  | 15 => ⟨S1x256x1, .f32⟩
  | 16 => ⟨S1x256x1, .f32⟩
  | 17 => ⟨S1x256x1, .f32⟩
  | 18 => ⟨S_, .f32⟩
  | 19 => ⟨S_, .i1⟩
  | 20 => ⟨S_, .f32⟩
  | 21 => ⟨S_, .f32⟩
  | 22 => ⟨S1x256x1, .f32⟩
  | 23 => ⟨S1x256x1, .f32⟩
  | 24 => ⟨S16x256x4096, .f32⟩
  | 25 => ⟨S16x256x4096, .f32⟩
  | 26 => ⟨S_, .f32⟩
  | 27 => ⟨S1x256x1, .f32⟩
  | 28 => ⟨S1x256x1, .f32⟩
  | 29 => ⟨S1x256x1, .f32⟩
  | 30 => ⟨S16x256x4096, .f32⟩
  | 31 => ⟨S16x256x4096, .f32⟩
  | 32 => ⟨S1x256x1, .f32⟩
  | 33 => ⟨S16x256x4096, .f32⟩
  | 34 => ⟨S16x256x4096, .f32⟩
  | 35 => ⟨S1x256x1, .f32⟩
  | 36 => ⟨S16x256x4096, .f32⟩
  | 37 => ⟨S16x256x4096, .f32⟩
  | 38 => ⟨S_, .f32⟩
  | 39 => ⟨S16x256x4096, .f32⟩
  | 40 => ⟨S16x256x4096, .f32⟩
  | _ => ⟨S16x4096x3, .f32⟩

abbrev hbmTy (i : Nat) : BufTy := match i / 128 with
  | 0 => hbmTy0_0 i
  | 1 => hbmTy0_1 i
  | _ => ⟨S16x4096x3, .f32⟩

abbrev bufTy : (tb : Table) → Fin (tcTables nBuf tb) → BufTy
  | .hbm, ⟨i, _⟩ => hbmTy i
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_values : Ref sig .tc := ⟨.hbm, 21, rfl⟩
abbrev main_indices : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_v12 : Ref sig .tc := ⟨.hbm, 93, rfl⟩
abbrev main_call0_cst_3 : Ref sig .tc := ⟨.hbm, 94, rfl⟩
abbrev main_call0_v13 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_10 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_call1_cst : Ref sig .tc := ⟨.hbm, 114, rfl⟩
abbrev main_call1_v0 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_11 : Ref sig .tc := ⟨.hbm, 122, rfl⟩
abbrev main_v71 : Ref sig .tc := ⟨.hbm, 123, rfl⟩
abbrev main_v72 : Ref sig .tc := ⟨.hbm, 124, rfl⟩
abbrev main_cst_12 : Ref sig .tc := ⟨.hbm, 125, rfl⟩
abbrev main_v73 : Ref sig .tc := ⟨.hbm, 126, rfl⟩
abbrev main_v74 : Ref sig .tc := ⟨.hbm, 127, rfl⟩
abbrev main_c_13 : Ref sig .tc := ⟨.hbm, 128, rfl⟩
abbrev main_call2_cst : Ref sig .tc := ⟨.hbm, 129, rfl⟩
abbrev main_call2_v0 : Ref sig .tc := ⟨.hbm, 130, rfl⟩
abbrev main_call2_v1 : Ref sig .tc := ⟨.hbm, 131, rfl⟩
abbrev main_call2_cst_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_v6 : Ref sig .tc := ⟨.hbm, 137, rfl⟩
abbrev main_call2_v7 : Ref sig .tc := ⟨.hbm, 138, rfl⟩
abbrev main_call2_cst_1 : Ref sig .tc := ⟨.hbm, 139, rfl⟩
abbrev main_call2_v8 : Ref sig .tc := ⟨.hbm, 140, rfl⟩
abbrev main_call2_cst_2 : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_v12 : Ref sig .tc := ⟨.hbm, 145, rfl⟩
abbrev main_call2_cst_3 : Ref sig .tc := ⟨.hbm, 146, rfl⟩
abbrev main_call2_v13 : Ref sig .tc := ⟨.hbm, 147, rfl⟩
abbrev main_call2_cst_4 : Ref sig .tc := ⟨.hbm, 148, rfl⟩
abbrev main_call2_call0_v0 : Ref sig .tc := ⟨.hbm, 149, rfl⟩
abbrev main_call2_call0_v1 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_cst_14 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_call3_cst : Ref sig .tc := ⟨.hbm, 166, rfl⟩
abbrev main_call3_v0 : Ref sig .tc := ⟨.hbm, 167, rfl⟩
abbrev main_v89 : Ref sig .tc := ⟨.hbm, 168, rfl⟩

abbrev nD : Nat := 1
abbrev τ : Topo := Topo.v7x

variable {F : FTy → Type} [FloatOps F]
-- ==== Proof.KernelRun.lean ====
/- The idealized kernel's run from any launch memory: every buffer that outlives the kernels ends at the contents
   `W6` which the generated frame module folds through the host stretches and the three kernel regions. -/
module

public import proofs.«01_k».proof.Proof.Gen.KernelIdeal.Frame

@[expose] public section

noncomputable section

namespace Cert.KernelIdeal.Value

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

-- the launch rule's conclusion is matched with this one up to plain definitions
set_option backward.isDefEq.respectTransparency.types false in
/-- From any memory with zero counters every execution of the program ends, and in the final state each unscoped buffer
    of each core holds what `W6` says. -/
theorem run_contents : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- The run with its result named: the result buffer ends at `W6`'s contents of it, the arguments end as launched. -/
theorem run_result : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨h c _ (mem_uc main_v37 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c)⟩) (run_contents m ρ)

end Cert.KernelIdeal.Value

end
-- ==== Proof.Nearest.lean ====
/- The kernel's choice and weighting of the three nearest known points, over any finite family of distances. -/
module

public import Idealize.ShloMosaic.Lib.Pipeline
public import Idealize.ShloMosaic.PureOps
public import Idealize.ShloMosaic.PureOps.Ideal.Laws

@[expose] public section

noncomputable section

namespace Cert.Value

open Idealize.ShloMosaic

variable {n : ℕ}

/-- The least of `n` extended reals, `⊤` when there is none. -/
def least (d : Fin n → EReal) : EReal := (Finset.univ : Finset (Fin n)).fold min ⊤ d

/-- The values of `d` that exceed `m`, the others replaced by `⊤`. -/
def above (d : Fin n → EReal) (m : EReal) (k : Fin n) : EReal := if d k ≤ m then ⊤ else d k

/-- The second least distance: the least of those above the least. -/
def least2 (d : Fin n → EReal) : EReal := least (above d (least d))

/-- The third least distance: the least of those above the second least. -/
def least3 (d : Fin n → EReal) : EReal := least (above d (least2 d))

/-- The weight the kernel gives to point `k`: the reciprocal root of its squared distance times the reciprocal of the sum of the
    three least ones', for a point at most as far as the third; zero for the others. -/
def kweight (d : Fin n → EReal) (k : Fin n) : EReal :=
  if d k ≤ least3 d then
    Ideal.rsqrt (d k) * Ideal.div 1 (Ideal.rsqrt (least d) + Ideal.rsqrt (least2 d) + Ideal.rsqrt (least3 d))
  else 0

/-- The reference's weight of the `j`-th of three squared distances: the reciprocal of the root, divided by the sum of the three. -/
def rweight (x : Fin 3 → EReal) (j : Fin 3) : EReal :=
  Ideal.div (Ideal.div 1 (Ideal.sqrt (max (x j) 0))) (∑ l, Ideal.div 1 (Ideal.sqrt (max (x l) 0)))

/-- `p` lists the three least of the distances `d`, all different, all finite and none negative. -/
structure Nearest (d : Fin n → EReal) (p : Fin 3 → Fin n) : Prop where
  nonneg : 0 ≤ d (p 0)
  lt01 : d (p 0) < d (p 1)
  lt12 : d (p 1) < d (p 2)
  finite : d (p 2) < ⊤
  rest : ∀ k, (∀ j, k ≠ p j) → d (p 2) < d k

/-- A value attained and below every other is the least. -/
theorem least_eq (d : Fin n → EReal) (k : Fin n) (h : ∀ l, d k ≤ d l) : least d = d k := by
  refine le_antisymm ?_ ?_
  · exact (Finset.le_fold_min _).mp le_rfl |>.2 k (Finset.mem_univ k)
  · exact (Finset.le_fold_min _).mpr ⟨le_top, fun l _ => h l⟩

section nearest

variable {d : Fin n → EReal} {p : Fin 3 → Fin n}

/-- Every point is one of the three nearest or further than the third. -/
theorem Nearest.le_of_ne (h : Nearest d p) (k : Fin n) : k = p 0 ∨ k = p 1 ∨ k = p 2 ∨ d (p 2) < d k := by
  by_cases h0 : k = p 0
  · exact .inl h0
  by_cases h1 : k = p 1
  · exact .inr (.inl h1)
  by_cases h2 : k = p 2
  · exact .inr (.inr (.inl h2))
  exact .inr (.inr (.inr (h.rest k fun j => by
    match j with
    | 0 => exact h0
    | 1 => exact h1
    | 2 => exact h2)))

/-- The least distance is that of the first. -/
theorem Nearest.least_eq (h : Nearest d p) : least d = d (p 0) := by
  refine Cert.Value.least_eq d (p 0) fun l => ?_
  rcases h.le_of_ne l with rfl | rfl | rfl | hl
  · exact le_rfl
  · exact h.lt01.le
  · exact (h.lt01.trans h.lt12).le
  · exact (h.lt01.trans (h.lt12.trans hl)).le

/-- The second minimum is the distance of the second. -/
theorem Nearest.least2_eq (h : Nearest d p) : least2 d = d (p 1) := by
  have e : above d (d (p 0)) (p 1) = d (p 1) := if_neg (not_le.mpr h.lt01)
  unfold least2
  rw [h.least_eq, ← e]
  refine Cert.Value.least_eq _ (p 1) fun l => ?_
  rw [e]
  unfold above
  split
  · exact le_top
  · rename_i hl
    rcases h.le_of_ne l with rfl | rfl | rfl | hl'
    · exact absurd le_rfl hl
    · exact le_rfl
    · exact h.lt12.le
    · exact (h.lt12.trans hl').le

/-- The third minimum is the distance of the third. -/
theorem Nearest.least3_eq (h : Nearest d p) : least3 d = d (p 2) := by
  have e : above d (d (p 1)) (p 2) = d (p 2) := if_neg (not_le.mpr h.lt12)
  unfold least3
  rw [h.least2_eq, ← e]
  refine Cert.Value.least_eq _ (p 2) fun l => ?_
  rw [e]
  unfold above
  split
  · exact le_top
  · rename_i hl
    rcases h.le_of_ne l with rfl | rfl | rfl | hl'
    · exact absurd h.lt01.le hl
    · exact absurd le_rfl hl
    · exact le_rfl
    · exact hl'.le

/-- Only the three nearest points are weighted, so a sum over all points is the sum over those three. -/
theorem Nearest.sum_eq (h : Nearest d p) (f : Fin n → EReal) :
    ∑ k, f k * kweight d k = ∑ j, f (p j) * kweight d (p j) := by
  have hp : Function.Injective p := by
    have h02 := h.lt01.trans h.lt12
    intro a b hab
    match a, b with
    | 0, 0 => rfl
    | 1, 1 => rfl
    | 2, 2 => rfl
    | 0, 1 => exact absurd (congrArg d hab) h.lt01.ne
    | 1, 0 => exact absurd (congrArg d hab) h.lt01.ne'
    | 1, 2 => exact absurd (congrArg d hab) h.lt12.ne
    | 2, 1 => exact absurd (congrArg d hab) h.lt12.ne'
    | 0, 2 => exact absurd (congrArg d hab) h02.ne
    | 2, 0 => exact absurd (congrArg d hab) h02.ne'
  have e := Finset.sum_map Finset.univ ⟨p, hp⟩ (fun k => f k * kweight d k)
  refine Eq.trans ?_ e
  symm
  refine Finset.sum_subset (Finset.subset_univ _) fun k _ hk => ?_
  have hk' : ∀ j, k ≠ p j := fun j e => hk (Finset.mem_map.mpr ⟨j, Finset.mem_univ j, e.symm⟩)
  rw [kweight, h.least3_eq, if_neg (not_le.mpr (h.rest k hk')), mul_zero]

end nearest

/-- The reciprocal of the root of a positive real. -/
theorem div_one_sqrt_pos {x : ℝ} (hx : 0 < x) : Ideal.div 1 (Ideal.sqrt (max (x : EReal) 0)) = (((Real.sqrt x)⁻¹ : ℝ) : EReal) := by
  have h1 : max (x : EReal) 0 = x := max_eq_left (by exact_mod_cast hx.le)
  have h2 : (Real.sqrt x : EReal) ≠ 0 := by exact_mod_cast (Real.sqrt_pos.mpr hx).ne'
  rw [h1]
  show Ideal.div 1 (if x < 0 then ⊥ else ((Real.sqrt x : ℝ) : EReal)) = _
  rw [if_neg (not_lt.mpr hx.le), Ideal.div, if_neg h2, one_mul, ← EReal.coe_inv]

/-- The reciprocal root of a positive real number. -/
theorem rsqrt_pos {x : ℝ} (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr hx.le), if_neg hx.ne']

/-- One over the root of zero is infinity. -/
theorem div_one_sqrt_zero : Ideal.div 1 (Ideal.sqrt (max ((0 : ℝ) : EReal) 0)) = ⊤ := by
  rw [max_eq_left (by simp)]
  show Ideal.div 1 (if (0 : ℝ) < 0 then ⊥ else ((Real.sqrt 0 : ℝ) : EReal)) = _
  simp [Ideal.div]

/-- The reciprocal root of zero is infinity. -/
theorem rsqrt_zero : Ideal.rsqrt ((0 : ℝ) : EReal) = ⊤ := by
  show (if (0 : ℝ) < 0 then ⊥ else if (0 : ℝ) = 0 then ⊤ else (((Real.sqrt 0)⁻¹ : ℝ) : EReal)) = _
  simp

/-- Any value over infinity is zero. -/
theorem div_top (x : EReal) : Ideal.div x ⊤ = 0 := by
  rw [Ideal.div, if_neg (by simp), EReal.inv_top, mul_zero]

/-- The kernel's weight of the `j`-th nearest point is the reference's. -/
theorem Nearest.kweight_eq {d : Fin n → EReal} {p : Fin 3 → Fin n} (h : Nearest d p) (j : Fin 3) :
    kweight d (p j) = rweight (fun j => d (p j)) j := by
  have hle : d (p j) ≤ d (p 2) := by
    match j with
    | 0 => exact (h.lt01.trans h.lt12).le
    | 1 => exact h.lt12.le
    | 2 => exact le_rfl
  rw [kweight, h.least_eq, h.least2_eq, h.least3_eq, if_pos hle]
  unfold rweight
  have h02 := h.lt01.trans h.lt12
  have hreal : ∀ j, ∃ x : ℝ, d (p j) = x ∧ 0 ≤ x := by
    intro j
    have h1 : d (p j) ≠ ⊤ := by
      match j with
      | 0 => exact (h02.trans h.finite).ne
      | 1 => exact (h.lt12.trans h.finite).ne
      | 2 => exact h.finite.ne
    have h2 : 0 ≤ d (p j) := by
      match j with
      | 0 => exact h.nonneg
      | 1 => exact h.nonneg.trans h.lt01.le
      | 2 => exact h.nonneg.trans h02.le
    have h3 : d (p j) ≠ ⊥ := fun e => by rw [e] at h2; exact absurd h2 (by simp)
    refine ⟨(d (p j)).toReal, (EReal.coe_toReal h1 h3).symm, ?_⟩
    exact EReal.toReal_nonneg h2
  choose x hx hx0 using hreal
  have e : (fun j => d (p j)) = fun j => (x j : EReal) := funext hx
  have l01 : x 0 < x 1 := by have := h.lt01; rw [hx, hx] at this; exact_mod_cast this
  have l12 : x 1 < x 2 := by have := h.lt12; rw [hx, hx] at this; exact_mod_cast this
  have p1 : 0 < x 1 := (hx0 0).trans_lt l01
  have p2 : 0 < x 2 := p1.trans l12
  simp only [hx, Fin.sum_univ_three]
  rw [rsqrt_pos p1, rsqrt_pos p2, div_one_sqrt_pos p1, div_one_sqrt_pos p2]
  rcases (hx0 0).eq_or_lt with h0 | h0
  · rw [← h0, rsqrt_zero, div_one_sqrt_zero, EReal.top_add_coe, EReal.top_add_coe, div_top, div_top, mul_zero]
  · rw [rsqrt_pos h0, div_one_sqrt_pos h0]
    have hj : 0 < x j := by
      match j with
      | 0 => exact h0
      | 1 => exact p1
      | 2 => exact p2
    rw [rsqrt_pos hj, div_one_sqrt_pos hj]
    have hs : (((Real.sqrt (x 0))⁻¹ : ℝ) : EReal) + ((Real.sqrt (x 1))⁻¹ : ℝ) + ((Real.sqrt (x 2))⁻¹ : ℝ) ≠ 0 := by
      have : 0 < (Real.sqrt (x 0))⁻¹ + (Real.sqrt (x 1))⁻¹ + (Real.sqrt (x 2))⁻¹ := by
        have := Real.sqrt_pos.mpr h0
        have := Real.sqrt_pos.mpr p1
        have := Real.sqrt_pos.mpr p2
        positivity
      exact_mod_cast this.ne'
    rw [Ideal.div, if_neg hs, Ideal.div, if_neg hs, one_mul]

/-- A sum weighted as the kernel does is the sum over the three nearest weighted as the reference does. -/
theorem Nearest.interp {d : Fin n → EReal} {p : Fin 3 → Fin n} (h : Nearest d p) (f : Fin n → EReal) :
    ∑ k, f k * kweight d k = ∑ j, f (p j) * rweight (fun j => d (p j)) j := by
  rw [h.sum_eq]
  exact Finset.sum_congr rfl fun j _ => by rw [h.kweight_eq]

end Cert.Value

end
-- ==== Proof.TopK.lean ====
/- The positions of the greatest elements along the last axis, and the three nearest points they name. -/
module

public import proofs.«01_k».proof.Proof.Nearest
public import Idealize.ShloMosaic.Lib.SortFacts
public import Idealize.ShloMosaic.Lib.ValueIdx
public import Idealize.ShloMosaic.Lib.Pipeline.Value

@[expose] public section

noncomputable section

namespace Cert.Value

open Idealize.ShloMosaic Idealize.ShloMosaic.ValueIdx

/-- The position holding the `r`-th greatest of `v`, equal ones in order of position. -/
def rank {n : ℕ} (v : Fin n → EReal) (r : Fin n) : Fin n :=
  sortedFrom (fun k k' => FloatOps.cmpfTotal (F := Ideal) (φ := .f32) .gt (v k) (v k') == 1#1) r

/-- The order of the sort, as a comparison. -/
theorem before_iff (x y : EReal) : (FloatOps.cmpfTotal (F := Ideal) (φ := .f32) .gt x y == 1#1) = decide (y < x) := by
  rw [Ideal.cmpfTotal_def]
  show (BitVec.ofBool (decide (y < x)) == 1#1) = _
  cases decide (y < x) <;> rfl

/-- A later position of the order holds no greater element. -/
theorem rank_antitone {n : ℕ} (v : Fin n → EReal) (i j : Fin n) (h : i < j) : v (rank v j) ≤ v (rank v i) := by
  have h' := sortedFrom_noInversion (fun k k' => FloatOps.cmpfTotal (F := Ideal) (φ := .f32) .gt (v k) (v k') == 1#1)
    (fun k k' => FloatOps.cmpfTotal (F := Ideal) (φ := .f32) .gt (v k) (v k') == 1#1)
    (fun a b hab => by
      simp only [before_iff, decide_eq_true_eq, decide_eq_false_iff_not, not_lt] at *
      exact hab.le)
    (fun a b hab => hab)
    (fun a b c hab hbc => by
      simp only [before_iff, decide_eq_false_iff_not, not_lt] at *
      exact hab.trans hbc) i j h
  rw [before_iff, decide_eq_false_iff_not, not_lt] at h'
  exact h'

section read

variable {A B n k : ℕ} (x : (⟨3, ![A, B, n]⟩ : Shape).Idx → EReal)
  (h : (⟨3, ![A, B, n]⟩ : Shape).Slices (fun _ => 0) ⟨3, ![A, B, k]⟩) (hk : k ≤ n)

/-- The index with its last component replaced. -/
theorem along_eq (a : Fin A) (b : Fin B) (c m : Fin n) :
    (ix3 a b c : (⟨3, ![A, B, n]⟩ : Shape).Idx).along (2 : Fin 3) m = ix3 a b m := by
  funext d
  match d with
  | ⟨0, _⟩ => rfl
  | ⟨1, _⟩ => rfl
  | ⟨2, _⟩ => rfl

/-- The sort of the fiber through `(a, b)` orders its positions as `rank` does. -/
theorem sorted_along (a : Fin A) (b : Fin B) (c : Fin n) :
    sortedFrom (n := n) (fun k k' => FloatOps.cmpfTotal (F := Ideal) (φ := .f32) .gt
      (x ((ix3 a b c : (⟨3, ![A, B, n]⟩ : Shape).Idx).along (2 : Fin 3) k))
      (x ((ix3 a b c : (⟨3, ![A, B, n]⟩ : Shape).Idx).along (2 : Fin 3) k')) == 1#1) c = rank (fun m => x (ix3 a b m)) c := by
  unfold rank
  refine congrArg (fun R => sortedFrom (n := n) R c) (funext fun k => funext fun k' => ?_)
  exact congrArg₂ (fun u v => FloatOps.cmpfTotal (F := Ideal) (φ := .f32) .gt (x u) (x v) == 1#1)
    (along_eq a b c k) (along_eq a b c k')

/-- A slice of the first `k` along the last axis reads the same index. -/
theorem slice_at (hk : k ≤ n) (a : Fin A) (b : Fin B) (r : Fin k) (d : Fin 3) :
    ((ix3 a b (r.castLE hk) : (⟨3, ![A, B, n]⟩ : Shape).Idx) d).val
      = 0 + ((ix3 a b r : (⟨3, ![A, B, k]⟩ : Shape).Idx) d).val := by
  match d with
  | ⟨0, _⟩ => exact (Nat.zero_add _).symm
  | ⟨1, _⟩ => exact (Nat.zero_add _).symm
  | ⟨2, _⟩ => exact (Nat.zero_add _).symm

include hk in
/-- The `r`-th greatest value along the last axis. -/
theorem topK_values (a : Fin A) (b : Fin B) (r : Fin k) :
    (Host.topK ⟨3, ![A, B, k]⟩ 2 (FloatOps.cmpfTotal (F := Ideal) (φ := .f32) .gt) x h).1 (ix3 a b r)
      = x (ix3 a b (rank (fun m => x (ix3 a b m)) (r.castLE hk))) := by
  unfold Host.topK
  dsimp only
  refine (extractStridedSlice_apply (fun _ => 0) _ h (ix3 a b r) (ix3 a b (r.castLE hk)) (slice_at hk a b r)).trans ?_
  exact (congrArg x (along_eq a b (r.castLE hk) _)).trans (congrArg (fun q => x (ix3 a b q)) (sorted_along x a b (r.castLE hk)))

include hk in
/-- … and its position along that axis. -/
theorem topK_indices (a : Fin A) (b : Fin B) (r : Fin k) :
    (Host.topK ⟨3, ![A, B, k]⟩ 2 (FloatOps.cmpfTotal (F := Ideal) (φ := .f32) .gt) x h).2 (ix3 a b r)
      = BitVec.ofNat 32 (rank (fun m => x (ix3 a b m)) (r.castLE hk)).val := by
  unfold Host.topK
  dsimp only
  refine (extractStridedSlice_apply (fun _ => 0) _ h (ix3 a b r) (ix3 a b (r.castLE hk)) (slice_at hk a b r)).trans ?_
  exact congrArg (fun q : Fin n => BitVec.ofNat 32 q.val) (sorted_along x a b (r.castLE hk))

end read

/-- Where the four greatest of `v` are different and `v` is nowhere positive, the first three positions are the three
    nearest for the distances `-v`. -/
theorem nearest_rank {n : ℕ} (hn : 4 ≤ n) (d : Fin n → EReal) (hd : ∀ k, 0 ≤ d k)
    (h : ∀ j : Fin 3, -d (rank (fun k => -d k) (j.succ.castLE hn)) < -d (rank (fun k => -d k) (j.castSucc.castLE hn))) :
    Nearest d (fun j : Fin 3 => rank (fun k => -d k) (j.castSucc.castLE hn)) where
  nonneg := hd _
  lt01 := EReal.neg_lt_neg_iff.mp (h 0)
  lt12 := EReal.neg_lt_neg_iff.mp (h 1)
  finite := (EReal.neg_lt_neg_iff.mp (h 2)).trans_le le_top
  rest k hk := by
    obtain ⟨m, rfl⟩ := sortedFrom_surjective
      (fun k k' => FloatOps.cmpfTotal (F := Ideal) (φ := .f32) .gt (-d k) (-d k') == 1#1) k
    change d _ < d (rank (fun k => -d k) m)
    refine (EReal.neg_lt_neg_iff.mp (h 2)).trans_le ?_
    have hm : 3 ≤ m.val := by
      by_contra hlt
      exact hk ⟨m.val, by omega⟩ rfl
    rcases hm.eq_or_lt with h3 | h3
    · exact le_of_eq (congrArg (fun q => d (rank (fun k => -d k) q)) (Fin.ext h3))
    · exact EReal.neg_le_neg_iff.mp (rank_antitone (fun k => -d k) ((2 : Fin 3).succ.castLE hn) m h3)

end Cert.Value

end
-- ==== Proof.BatchNorm.lean ====
/- One channel of the batch normalization: the kernel's form (moments, then one multiply and one add per element) against the reference's. -/
module

public import Idealize.ShloMosaic.Lib.Pipeline
public import Idealize.ShloMosaic.PureOps
public import Idealize.ShloMosaic.PureOps.Ideal.Laws

@[expose] public section

noncomputable section

namespace Cert.Value

open Idealize.ShloMosaic

variable {ι : Type} [Fintype ι]

/-- The kernel's scale of a channel, from the sum `s` and the sum of squares `ss` of its values: the gain over the root of the
    (mean of squares − square of the mean) plus `e`. -/
def kscale (N e g s ss : EReal) : EReal :=
  Ideal.div g (Ideal.sqrt (Ideal.div ss N - Ideal.div s N * Ideal.div s N + e))

/-- The kernel's shift of a channel: the offset less the scaled mean. -/
def kshift (N e g be s ss : EReal) : EReal := be - kscale N e g s ss * Ideal.div s N

/-- The kernel's normalized and clipped value. -/
def knorm (N e g be s ss x : EReal) : EReal := max (x * kscale N e g s ss + kshift N e g be s ss) 0

/-- The reference's normalized and clipped value of `x` in a channel with values `y`. -/
def rnorm (N e g be : EReal) (y : ι → EReal) (x : EReal) : EReal :=
  max (Ideal.div (x - Ideal.div (∑ i, y i) N)
    (Ideal.sqrt (Ideal.div (∑ i, (y i - Ideal.div (∑ i, y i) N) * (y i - Ideal.div (∑ i, y i) N)) N + e)) * g + be) 0

/-- The quotient of two real numbers, the divisor not zero, is the real quotient. -/
theorem div_coe_coe (x : ℝ) {N : ℝ} (hN : N ≠ 0) : Ideal.div (x : EReal) (N : EReal) = ((x / N : ℝ) : EReal) := by
  rw [Ideal.div_coe hN, ← EReal.coe_mul]
  congr 1
  ring

/-- Infinity over a positive real number is infinity. -/
theorem div_top_coe {N : ℝ} (hN : 0 < N) : Ideal.div ⊤ (N : EReal) = ⊤ := by
  rw [Ideal.div_coe hN.ne', EReal.top_mul_coe_of_pos (by positivity)]

/-- Minus infinity over a positive real number is minus infinity. -/
theorem div_bot_coe {N : ℝ} (hN : 0 < N) : Ideal.div ⊥ (N : EReal) = ⊥ := by
  rw [Ideal.div_coe hN.ne', EReal.bot_mul_coe_of_pos (by positivity)]

/-- A sum of real numbers as an extended real. -/
theorem coe_sum_real (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A sum with an infinite term is infinite. -/
theorem sum_infinite (s : Finset ι) (y : ι → EReal) (h : ∃ i ∈ s, y i = ⊤ ∨ y i = ⊥) : (∑ i ∈ s, y i) = ⊤ ∨ (∑ i ∈ s, y i) = ⊥ := by
  classical
  induction s using Finset.induction_on with
  | empty => obtain ⟨i, hi, _⟩ := h; exact absurd hi (by simp)
  | insert a s ha ih =>
    rw [Finset.sum_insert ha]
    have key : ∀ u v : EReal, (u = ⊤ ∨ u = ⊥) ∨ (v = ⊤ ∨ v = ⊥) → (u + v = ⊤ ∨ u + v = ⊥) := by
      intro u v huv
      induction u using EReal.rec with
      | bot => exact .inr (EReal.bot_add v)
      | top =>
        induction v using EReal.rec with
        | bot => exact .inr (EReal.add_bot _)
        | top => exact .inl rfl
        | coe r => exact .inl (EReal.top_add_coe r)
      | coe q =>
        induction v using EReal.rec with
        | bot => exact .inr (EReal.add_bot _)
        | top => exact .inl (EReal.coe_add_top q)
        | coe r => simp at huv
    obtain ⟨i, hi, hy⟩ := h
    rcases Finset.mem_insert.mp hi with rfl | hi
    · exact key _ _ (.inl hy)
    · exact key _ _ (.inr (ih ⟨i, hi, hy⟩))

/-- A sum of terms none of them negative, one of them `⊤`, is `⊤`. -/
theorem sum_top (y : ι → EReal) (h0 : ∀ i, 0 ≤ y i) (i : ι) (hi : y i = ⊤) : (∑ i, y i) = ⊤ := by
  refine top_le_iff.mp ?_
  rw [← hi]
  exact Finset.single_le_sum (fun j _ => h0 j) (Finset.mem_univ i)

/-- The square of an infinite value is infinity. -/
theorem mul_self_infinite {x : EReal} (h : x = ⊤ ∨ x = ⊥) : x * x = ⊤ := by
  rcases h with rfl | rfl <;> rfl

/-- A square is not negative. -/
theorem mul_self_nonneg' (x : EReal) : 0 ≤ x * x := by
  rcases le_total 0 x with h | h
  · exact mul_nonneg h h
  · rw [← neg_mul_neg]
    have : 0 ≤ -x := EReal.neg_nonneg.mpr h
    exact mul_nonneg this this

/-- A difference from an infinite value is infinite. -/
theorem sub_infinite (x : EReal) {m : EReal} (h : m = ⊤ ∨ m = ⊥) : x - m = ⊤ ∨ x - m = ⊥ := by
  rcases h with rfl | rfl
  · exact .inr (by simp [sub_eq_add_neg])
  · induction x using EReal.rec with
    | bot => exact .inr (by simp [sub_eq_add_neg])
    | top => exact .inl rfl
    | coe r => exact .inl (by simp [sub_eq_add_neg])

/-- The mean of squares less the square of the mean is the mean of the squared deviations. -/
theorem var_eq (y : ι → ℝ) {N : ℝ} (hN : 0 < N) (hc : N = Fintype.card ι) :
    (∑ i, y i * y i) / N - (∑ i, y i) / N * ((∑ i, y i) / N)
      = (∑ i, (y i - (∑ i, y i) / N) * (y i - (∑ i, y i) / N)) / N := by
  have h : ∀ m : ℝ, ∑ i, (y i - m) * (y i - m) = ∑ i, y i * y i - 2 * m * ∑ i, y i + N * (m * m) := by
    intro m
    have : ∀ i, (y i - m) * (y i - m) = y i * y i - 2 * m * y i + m * m := fun i => by ring
    simp only [this, Finset.sum_add_distrib, Finset.sum_sub_distrib, ← Finset.mul_sum, Finset.sum_const, Finset.card_univ,
      nsmul_eq_mul, hc]
    ring
  rw [h]
  field_simp
  ring

/-- **The batch normalization.** With a finite gain the kernel's form and the reference's agree, whatever the values. -/
theorem knorm_eq_rnorm {N e g : ℝ} (be : EReal) (hN : 0 < N) (hc : N = Fintype.card ι) (he : 0 < e) (y : ι → EReal) (i : ι) :
    knorm N e g be (∑ i, y i) (∑ i, y i * y i) (y i) = rnorm N e g be y (y i) := by
  by_cases hy : ∀ i, ∃ r : ℝ, y i = r
  · choose r hr using hy
    have hyr : y = fun i => (r i : EReal) := funext hr
    subst hyr
    unfold knorm rnorm kshift kscale
    simp only [← EReal.coe_mul, coe_sum_real, div_coe_coe _ hN.ne', ← EReal.coe_sub, ← EReal.coe_add]
    rw [var_eq r hN hc]
    set V : ℝ := (∑ i, (r i - (∑ i, r i) / N) * (r i - (∑ i, r i) / N)) / N with hV
    set M : ℝ := (∑ i, r i) / N with hM
    have hV0 : 0 ≤ V := div_nonneg (Finset.sum_nonneg fun i _ => mul_self_nonneg _) hN.le
    have hpos : 0 < V + e := by linarith
    have hs : Ideal.sqrt ((V + e : ℝ) : EReal) = ((Real.sqrt (V + e) : ℝ) : EReal) := by
      show (if V + e < 0 then ⊥ else ((Real.sqrt (V + e) : ℝ) : EReal)) = _
      rw [if_neg (not_lt.mpr hpos.le)]
    have hσ : Real.sqrt (V + e) ≠ 0 := (Real.sqrt_pos.mpr hpos).ne'
    rw [hs, div_coe_coe _ hσ, div_coe_coe _ hσ, ← EReal.coe_mul, ← EReal.coe_mul, ← EReal.coe_mul, sub_eq_add_neg, add_left_comm,
      add_comm be, ← EReal.coe_neg, ← EReal.coe_add]
    congr 3
    field_simp
    ring
  · push Not at hy
    obtain ⟨i0, hi0⟩ := hy
    have hinf : y i0 = ⊤ ∨ y i0 = ⊥ := by
      generalize y i0 = x at hi0
      induction x using EReal.rec with
      | bot => exact .inr rfl
      | top => exact .inl rfl
      | coe r => exact absurd rfl (hi0 r)
    have hss : (∑ i, y i * y i) = ⊤ := sum_top _ (fun i => mul_self_nonneg' _) i0 (mul_self_infinite hinf)
    have hm : Ideal.div (∑ i, y i) (N : EReal) = ⊤ ∨ Ideal.div (∑ i, y i) (N : EReal) = ⊥ := by
      rcases sum_infinite Finset.univ y ⟨i0, Finset.mem_univ _, hinf⟩ with h | h
      · exact .inl (by rw [h, div_top_coe hN])
      · exact .inr (by rw [h, div_bot_coe hN])
    unfold knorm rnorm kshift kscale
    rw [hss, div_top_coe hN]
    generalize Ideal.div (∑ i, y i) (N : EReal) = m at hm
    have hd : (∑ i, (y i - m) * (y i - m)) = ⊤ :=
      sum_top _ (fun i => mul_self_nonneg' _) i0 (mul_self_infinite (sub_infinite _ hm))
    rw [mul_self_infinite hm, hd, div_top_coe hN,
      EReal.top_add_coe]
    have h1 : (⊤ : EReal) - ⊤ + (e : EReal) = ⊥ := by rw [EReal.sub_top, EReal.bot_add]
    have h2 : Ideal.sqrt ⊥ = ⊥ := rfl
    have h3 : Ideal.sqrt ⊤ = ⊤ := rfl
    have h4 : ∀ x : EReal, Ideal.div x ⊥ = 0 := fun x => by rw [Ideal.div, if_neg (by simp), EReal.inv_bot, mul_zero]
    have h5 : ∀ x : EReal, Ideal.div x ⊤ = 0 := fun x => by rw [Ideal.div, if_neg (by simp), EReal.inv_top, mul_zero]
    rw [h1, h2, h3, h4, h5, mul_zero, zero_mul, zero_mul, sub_zero, zero_add]

end Cert.Value

end
-- ==== Proof.Spec.lean ====
/- The network of both programs as functions of its arrays: distances, interpolation, two layers, each normalised over its channel. -/
module

public import proofs.«01_k».proof.Proof.TopK
public import proofs.«01_k».proof.Proof.BatchNorm

@[expose] public section

noncomputable section

namespace Cert.Value

open Idealize.ShloMosaic Idealize.ShloMosaic.ValueIdx

/-- Features over batch, channel and point. -/
abbrev Feat : Type := Fin 16 → Fin 256 → Fin 4096 → EReal

/-- The value of the literal 65536.0, the number of points of a channel. -/
def cnt : EReal := Ideal.ofBits .f32 0x47800000#32

/-- The value of the literal 1e-5 of the batch norms. -/
def eps : EReal := Ideal.ofBits .f32 0x3727C5AC#32

/-- The literal of the number of values is 65536. -/
theorem cnt_eq : cnt = ((65536 : ℝ) : EReal) := by
  unfold cnt
  simp [Ideal.ofBits, Ideal.ieee, -EReal.coe_mul]
  norm_num

/-- The literal added to the variance is a positive real number. -/
theorem eps_pos : ∃ e : ℝ, 0 < e ∧ eps = (e : EReal) := by
  unfold eps
  simp [Ideal.ofBits, Ideal.ieee, -EReal.coe_mul]

/-- A channel's sum over batches and points. -/
def chanSum (y : Feat) (o : Fin 256) : EReal := ∑ b : Fin 16, ∑ i : Fin 4096, y b o i

/-- Batch norm and rectifier from a channel's sum and sum of squares. -/
def knormed (g be : Fin 256 → EReal) (y : Feat) : Feat := fun b o i =>
  knorm cnt eps (g o) (be o) (chanSum y o) (chanSum (fun b o i => y b o i * y b o i) o) (y b o i)

/-- Batch norm and rectifier from a channel's mean and mean squared deviation. -/
def rnormed (g be : Fin 256 → EReal) (y : Feat) : Feat := fun b o i =>
  rnorm cnt eps (g o) (be o) (fun p : Fin 16 × Fin 4096 => y p.1 o p.2) (y b o i)

/-- The two batch norms agree for finite gains. -/
theorem knormed_eq_rnormed (g be : Fin 256 → EReal) (hg : ∀ o, ∃ r : ℝ, g o = (r : EReal)) (y : Feat) :
    knormed g be y = rnormed g be y := by
  funext b o i
  obtain ⟨r, hr⟩ := hg o
  obtain ⟨e, he, hE⟩ := eps_pos
  have h := knorm_eq_rnorm (N := 65536) (e := e) (g := r) (be o) (by norm_num)
    (by simp [Fintype.card_prod]) he (fun p : Fin 16 × Fin 4096 => y p.1 o p.2) (b, i)
  unfold knormed rnormed chanSum
  rw [hr, cnt_eq, hE, ← h, Fintype.sum_prod_type, Fintype.sum_prod_type]

/-- A layer of weights `W` and biases `v` over 256 channels. -/
def layer (W : Fin 256 → Fin 256 → EReal) (v : Fin 256 → EReal) (z : Feat) : Feat := fun b o i =>
  (∑ c : Fin 256, W o c * z b c i) + v o

/-- The first layer, over 256 interpolated and 256 own channels. -/
def layer2 (W : Fin 256 → Fin 512 → EReal) (v : Fin 256 → EReal) (z u : Feat) : Feat := fun b o i =>
  (∑ c : Fin 256, W o (c.castAdd 256) * z b c i) + (∑ c : Fin 256, W o (c.natAdd 256) * u b c i) + v o

/-- The squared distance of unknown point `i` and known point `k` of batch `b`. -/
def d2 (U : Fin 16 → Fin 4096 → Fin 3 → EReal) (K : Fin 16 → Fin 1024 → Fin 3 → EReal) (b : Fin 16) (i : Fin 4096)
    (k : Fin 1024) : EReal :=
  ∑ a : Fin 3, (U b i a - K b k a) * (U b i a - K b k a)

/-- A squared distance is not negative. -/
theorem d2_nonneg (U : Fin 16 → Fin 4096 → Fin 3 → EReal) (K : Fin 16 → Fin 1024 → Fin 3 → EReal) (b : Fin 16)
    (i : Fin 4096) (k : Fin 1024) : 0 ≤ d2 U K b i k :=
  Finset.sum_nonneg fun _ _ => mul_self_nonneg' _

/-- The `j`-th nearest of the points at distances `d`. -/
def near (d : Fin 1024 → EReal) (j : Fin 3) : Fin 1024 := rank (fun k => - d k) (j.castLE (by decide))

/-- Interpolation by the weights of the three least distances, all known points summed. -/
def kinterp (d : Fin 16 → Fin 4096 → Fin 1024 → EReal) (f : Fin 16 → Fin 256 → Fin 1024 → EReal) : Feat := fun b c i =>
  ∑ k : Fin 1024, f b c k * kweight (d b i) k

/-- Interpolation by the weights of the three nearest points. -/
def rinterp (d : Fin 16 → Fin 4096 → Fin 1024 → EReal) (f : Fin 16 → Fin 256 → Fin 1024 → EReal) : Feat := fun b c i =>
  ∑ j : Fin 3, f b c (near (d b i) j) * rweight (fun j => d b i (near (d b i) j)) j

/-- The four nearest points lie at four different distances. -/
def Distinct (d : Fin 1024 → EReal) : Prop :=
  ∀ j : Fin 3, - d (rank (fun k => - d k) (j.succ.castLE (by decide))) < - d (rank (fun k => - d k) (j.castSucc.castLE (by decide)))

/-- The two interpolations agree where the four nearest points lie at different distances. -/
theorem kinterp_eq_rinterp (d : Fin 16 → Fin 4096 → Fin 1024 → EReal) (hd : ∀ b i k, 0 ≤ d b i k)
    (h : ∀ b i, Distinct (d b i)) (f : Fin 16 → Fin 256 → Fin 1024 → EReal) : kinterp d f = rinterp d f := by
  funext b c i
  exact (nearest_rank (by decide) (d b i) (hd b i) (h b i)).interp (f b c)

/-- The whole network as the kernel computes it. -/
def knet (U : Fin 16 → Fin 4096 → Fin 3 → EReal) (K : Fin 16 → Fin 1024 → Fin 3 → EReal) (u : Feat)
    (f : Fin 16 → Fin 256 → Fin 1024 → EReal) (W0 : Fin 256 → Fin 512 → EReal) (v0 g0 be0 : Fin 256 → EReal)
    (W1 : Fin 256 → Fin 256 → EReal) (v1 g1 be1 : Fin 256 → EReal) : Feat :=
  knormed g1 be1 (layer W1 v1 (knormed g0 be0 (layer2 W0 v0 (kinterp (d2 U K) f) u)))

/-- The whole network as the reference computes it. -/
def rnet (U : Fin 16 → Fin 4096 → Fin 3 → EReal) (K : Fin 16 → Fin 1024 → Fin 3 → EReal) (u : Feat)
    (f : Fin 16 → Fin 256 → Fin 1024 → EReal) (W0 : Fin 256 → Fin 512 → EReal) (v0 g0 be0 : Fin 256 → EReal)
    (W1 : Fin 256 → Fin 256 → EReal) (v1 g1 be1 : Fin 256 → EReal) : Feat :=
  rnormed g1 be1 (layer W1 v1 (rnormed g0 be0 (layer2 W0 v0 (rinterp (d2 U K) f) u)))

/-- Kernel and reference network agree for different nearest distances and finite gains. -/
theorem knet_eq_rnet (U : Fin 16 → Fin 4096 → Fin 3 → EReal) (K : Fin 16 → Fin 1024 → Fin 3 → EReal) (u : Feat)
    (f : Fin 16 → Fin 256 → Fin 1024 → EReal) (W0 : Fin 256 → Fin 512 → EReal) (v0 g0 be0 : Fin 256 → EReal)
    (W1 : Fin 256 → Fin 256 → EReal) (v1 g1 be1 : Fin 256 → EReal) (h : ∀ b i, Distinct (d2 U K b i))
    (h0 : ∀ o, ∃ r : ℝ, g0 o = (r : EReal)) (h1 : ∀ o, ∃ r : ℝ, g1 o = (r : EReal)) :
    knet U K u f W0 v0 g0 be0 W1 v1 g1 be1 = rnet U K u f W0 v0 g0 be0 W1 v1 g1 be1 := by
  unfold knet rnet
  rw [kinterp_eq_rinterp _ (d2_nonneg U K) h, knormed_eq_rnormed g0 be0 h0, knormed_eq_rnormed g1 be1 h1]

end Cert.Value
-- ==== Proof.Layout.lean ====
/- The kernel's layout operations, reductions and matrix products at an index. -/
module

public import proofs.«01_k».proof.Proof.Spec
public import proofs.«01_k».proof.Proof.Gen.KernelIdeal.Skeleton
public import Idealize.ShloMosaic.Lib.Pipeline.Value

@[expose] public section

set_option maxRecDepth 16384

noncomputable section

namespace Cert.KernelIdeal.Pay

open Cert.KernelIdeal Cert.KernelIdeal.Gen Cert.Value
open Idealize.ShloMosaic Idealize.ShloMosaic.ValueIdx

variable {α : Type}

/-- A block `[1, h, w]` viewed as `[h, w]`. -/
theorem drop_apply {h w : Nat} (v : (⟨3, ![1, h, w]⟩ : Shape).Idx → α) (e : (⟨3, ![1, h, w]⟩ : Shape).ShapeCasts ⟨2, ![h, w]⟩)
    (i : Fin h) (j : Fin w) : shapeCast ⟨2, ![h, w]⟩ v e (ix2 i j) = v (ix3 0 i j) := by
  refine shapeCast_apply v e (ix2 i j) (ix3 0 i j) ?_
  rw [Shape.rowMajor_val_three, Shape.rowMajor_val_two]
  show ((0 : Nat) * h + i.val) * w + j.val = i.val * w + j.val
  rw [Nat.zero_mul, Nat.zero_add]

/-- An `[h, w]` vector viewed as `[1, h, w]`. -/
theorem add_apply {h w : Nat} (v : (⟨2, ![h, w]⟩ : Shape).Idx → α) (e : (⟨2, ![h, w]⟩ : Shape).ShapeCasts ⟨3, ![1, h, w]⟩)
    (i : Fin h) (j : Fin w) : shapeCast ⟨3, ![1, h, w]⟩ v e (ix3 0 i j) = v (ix2 i j) := by
  refine shapeCast_apply v e (ix3 0 i j) (ix2 i j) ?_
  rw [Shape.rowMajor_val_three, Shape.rowMajor_val_two]
  show i.val * w + j.val = ((0 : Nat) * h + i.val) * w + j.val
  rw [Nat.zero_mul, Nat.zero_add]

/-- A vector `[h]` viewed as the column `[h, 1]`. -/
theorem col_apply {h : Nat} (v : (⟨1, ![h]⟩ : Shape).Idx → α) (e : (⟨1, ![h]⟩ : Shape).ShapeCasts ⟨2, ![h, 1]⟩)
    (i : Fin h) : shapeCast ⟨2, ![h, 1]⟩ v e (ix2 i 0) = v (ix1 i) := by
  refine shapeCast_apply v e (ix2 i 0) (ix1 i) ?_
  rw [Shape.rowMajor_val_one, Shape.rowMajor_val_two]
  show i.val = i.val * 1 + 0
  omega

/-- A row `[1, h]` viewed as the vector `[h]`. -/
theorem uncol_apply {h : Nat} (v : (⟨2, ![1, h]⟩ : Shape).Idx → α) (e : (⟨2, ![1, h]⟩ : Shape).ShapeCasts ⟨1, ![h]⟩)
    (i : Fin h) : shapeCast ⟨1, ![h]⟩ v e (ix1 i) = v (ix2 0 i) := by
  refine shapeCast_apply v e (ix1 i) (ix2 0 i) ?_
  rw [Shape.rowMajor_val_one, Shape.rowMajor_val_two]
  show 0 * h + i.val = i.val
  omega

/-- A cast to the same shape changes nothing. -/
theorem same_apply {s : Shape} (v : s.Idx → α) (e : s.ShapeCasts s) (j : s.Idx) : shapeCast s v e j = v j :=
  shapeCast_apply v e j j rfl

/-- A column stretched over the rows' entries. -/
theorem colBcast_apply {h w : Nat} (v : (⟨2, ![h, 1]⟩ : Shape).Idx → α) (e : (⟨2, ![h, 1]⟩ : Shape).Broadcasts ⟨2, ![h, w]⟩)
    (i : Fin h) (j : Fin w) : broadcastTo ⟨2, ![h, w]⟩ v e (ix2 i j) = v (ix2 i 0) := by
  refine broadcastTo_apply v e (ix2 i j) (ix2 i 0) fun a => ?_
  match a with
  | ⟨0, _⟩ =>
    show i.val = if h = 1 then 0 else i.val
    split
    · have := i.isLt; omega
    · rfl
  | ⟨1, _⟩ => rfl

/-- A row stretched over the rows. -/
theorem rowBcast_apply {h w : Nat} (v : (⟨2, ![1, w]⟩ : Shape).Idx → α) (e : (⟨2, ![1, w]⟩ : Shape).Broadcasts ⟨2, ![h, w]⟩)
    (i : Fin h) (j : Fin w) : broadcastTo ⟨2, ![h, w]⟩ v e (ix2 i j) = v (ix2 0 j) := by
  refine broadcastTo_apply v e (ix2 i j) (ix2 0 j) fun a => ?_
  match a with
  | ⟨0, _⟩ => rfl
  | ⟨1, _⟩ =>
    show j.val = if w = 1 then 0 else j.val
    split
    · have := j.isLt; omega
    · rfl

/-- A column turned into a row. -/
theorem turn_apply {h : Nat} (v : (⟨2, ![h, 1]⟩ : Shape).Idx → α) (e : (⟨2, ![h, 1]⟩ : Shape).Transposes [1, 0] ⟨2, ![1, h]⟩)
    (i : Fin h) : transpose ⟨2, ![1, h]⟩ [1, 0] v e (ix2 0 i) = v (ix2 i 0) :=
  transpose_apply [1, 0] v e (ix2 0 i) (ix2 i 0) fun b => match b with | ⟨0, _⟩ => rfl | ⟨1, _⟩ => rfl

/-- One column of a matrix. -/
theorem sliceCol_apply {h w : Nat} (a : Fin w) (v : (⟨2, ![h, w]⟩ : Shape).Idx → α)
    (e : (⟨2, ![h, w]⟩ : Shape).Slices ![0, a.val] ⟨2, ![h, 1]⟩) (i : Fin h) :
    extractStridedSlice ⟨2, ![h, 1]⟩ ![0, a.val] v e (ix2 i 0) = v (ix2 i a) :=
  extractStridedSlice_apply ![0, a.val] v e (ix2 i 0) (ix2 i a) fun b => match b with
    | ⟨0, _⟩ => (Nat.zero_add i.val).symm
    | ⟨1, _⟩ => rfl

/-- One row of a matrix. -/
theorem sliceRow_apply {h w : Nat} (a : Fin h) (v : (⟨2, ![h, w]⟩ : Shape).Idx → α)
    (e : (⟨2, ![h, w]⟩ : Shape).Slices ![a.val, 0] ⟨2, ![1, w]⟩) (j : Fin w) :
    extractStridedSlice ⟨2, ![1, w]⟩ ![a.val, 0] v e (ix2 0 j) = v (ix2 a j) :=
  extractStridedSlice_apply ![a.val, 0] v e (ix2 0 j) (ix2 a j) fun b => match b with
    | ⟨0, _⟩ => rfl
    | ⟨1, _⟩ => (Nat.zero_add j.val).symm

/-- The index a row sum reads at row `i` and column `k`. -/
theorem lift_eq {h w : Nat} (e : (⟨2, ![h, w]⟩ : Shape).Reduces [1] ⟨1, ![h]⟩) (i : Fin h) (k : Fin w) :
    e.lift (ix1 i) k = ix2 i k := by
  funext d
  match d with
  | ⟨0, _⟩ => exact Fin.ext rfl
  | ⟨1, _⟩ => exact Fin.ext rfl

/-- A row's sum. -/
theorem rowSum_apply {h w : Nat} (v : (⟨2, ![h, w]⟩ : Shape).Idx → EReal) (acc : BitVec FTy.f32.bits)
    (e : (⟨2, ![h, w]⟩ : Shape).Reduces [1] ⟨1, ![h]⟩) (hφ : FKind.Formats .f32) (hacc : acc = FKind.add.neutral .f32 hφ)
    (i : Fin h) :
    multiReduction (F := Ideal) (φ := .f32) .add [1] ⟨1, ![h]⟩ v acc e hφ hacc (ix1 i) = ∑ k : Fin w, v (ix2 i k) := by
  refine (Ideal.multiReduction_add_single (φ := .f32) v acc e hφ hacc (ix1 i)).trans ?_
  exact Finset.sum_congr rfl fun k _ => congrArg v (lift_eq e i k)

/-- A row's least entry. -/
theorem rowMin_apply {h w : Nat} (v : (⟨2, ![h, w]⟩ : Shape).Idx → EReal)
    (e : (⟨2, ![h, w]⟩ : Shape).Reduces [1] ⟨1, ![h]⟩) (hφ : FKind.Formats .f32)
    (hacc : (0x7F800000#32 : BitVec FTy.f32.bits) = FKind.minimumf.neutral .f32 hφ) (i : Fin h) :
    multiReduction (F := Ideal) (φ := .f32) .minimumf [1] ⟨1, ![h]⟩ v 0x7F800000#32 e hφ hacc (ix1 i)
      = least fun k : Fin w => v (ix2 i k) := by
  rw [multiReduction_minimumf_eq_fold]
  refine (e.fold_filter_drop_single _ _ v (ix1 i)).trans ?_
  have ht : (FloatOps.ofBits (F := Ideal) .f32 0x7F800000#32) = (⊤ : EReal) := by
    show Ideal.ofBits .f32 0x7F800000#32 = ⊤
    simp [Ideal.ofBits, Ideal.ieee]
  rw [ht, show v ∘ e.lift (ix1 i) = fun k : Fin w => v (ix2 i k) from funext fun k => congrArg v (lift_eq e i k)]
  rfl

/-- Axis 0 of the left operand's index in a product's term. -/
theorem dotCols_lhs0 (j : S256x4096.Idx) (q : dot_S256x1024_S4096x1024_S256x4096_1_1_0_0_n_n.contr.Idx) : (dot_S256x1024_S4096x1024_S256x4096_1_1_0_0_n_n.lhsIdx j q 0).val = (j 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl

/-- Axis 1 of the left operand's index in a product's term. -/
theorem dotCols_lhs1 (j : S256x4096.Idx) (q : dot_S256x1024_S4096x1024_S256x4096_1_1_0_0_n_n.contr.Idx) : (dot_S256x1024_S4096x1024_S256x4096_1_1_0_0_n_n.lhsIdx j q 1).val = (q ⟨0, by decide⟩).val :=
  dot_S256x1024_S4096x1024_S256x4096_1_1_0_0_n_n.lhsIdx_val_of_single rfl j q

/-- Axis 0 of the right operand's index in a product's term. -/
theorem dotCols_rhs0 (j : S256x4096.Idx) (q : dot_S256x1024_S4096x1024_S256x4096_1_1_0_0_n_n.contr.Idx) : (dot_S256x1024_S4096x1024_S256x4096_1_1_0_0_n_n.rhsIdx j q 0).val = (j 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl

/-- Axis 1 of the right operand's index in a product's term. -/
theorem dotCols_rhs1 (j : S256x4096.Idx) (q : dot_S256x1024_S4096x1024_S256x4096_1_1_0_0_n_n.contr.Idx) : (dot_S256x1024_S4096x1024_S256x4096_1_1_0_0_n_n.rhsIdx j q 1).val = (q ⟨0, by decide⟩).val :=
  dot_S256x1024_S4096x1024_S256x4096_1_1_0_0_n_n.rhsIdx_val_of_single rfl j q

/-- The product contracting the columns of the left factor with the columns of the right one. -/
theorem dotCols_apply (l : S256x1024.Idx → EReal) (r : S4096x1024.Idx → EReal) (o : Fin 256) (i : Fin 4096) :
    matmul (F := Ideal) (φ₁ := .f32) (φ₂ := .f32) dot_S256x1024_S4096x1024_S256x4096_1_1_0_0_n_n none l r (constant S256x4096 .f32 0x00000000#32) (ix2 o i)
      = ∑ k : Fin 1024, l (ix2 o k) * r (ix2 i k) := by
  refine (Ideal.matmul_constant_zero_apply dot_S256x1024_S4096x1024_S256x4096_1_1_0_0_n_n none l r (ix2 o i)).trans ?_
  rw [← Equiv.sum_comp (ValueIdx.contrEquiv1 dot_S256x1024_S4096x1024_S256x4096_1_1_0_0_n_n 1024 rfl rfl).symm]
  refine Finset.sum_congr rfl fun k _ => ?_
  have hk := ValueIdx.contrEquiv1_symm_val dot_S256x1024_S4096x1024_S256x4096_1_1_0_0_n_n 1024 rfl rfl k
  have el : dot_S256x1024_S4096x1024_S256x4096_1_1_0_0_n_n.lhsIdx (ix2 o i) ((ValueIdx.contrEquiv1 dot_S256x1024_S4096x1024_S256x4096_1_1_0_0_n_n 1024 rfl rfl).symm k) = ix2 o k := funext fun a => Fin.ext (by
    match a with
    | ⟨0, _⟩ => exact dotCols_lhs0 _ _
    | ⟨1, _⟩ => exact (dotCols_lhs1 _ _).trans hk)
  have er : dot_S256x1024_S4096x1024_S256x4096_1_1_0_0_n_n.rhsIdx (ix2 o i) ((ValueIdx.contrEquiv1 dot_S256x1024_S4096x1024_S256x4096_1_1_0_0_n_n 1024 rfl rfl).symm k) = ix2 i k := funext fun a => Fin.ext (by
    match a with
    | ⟨0, _⟩ => exact dotCols_rhs0 _ _
    | ⟨1, _⟩ => exact (dotCols_rhs1 _ _).trans hk)
  rw [el, er]

/-- Axis 0 of the left operand's index in a product's term. -/
theorem dot_lhs0 (j : S256x4096.Idx) (q : dot_S256x256_S256x4096_S256x4096_1_0_0_1_n_n.contr.Idx) : (dot_S256x256_S256x4096_S256x4096_1_0_0_1_n_n.lhsIdx j q 0).val = (j 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl

/-- Axis 1 of the left operand's index in a product's term. -/
theorem dot_lhs1 (j : S256x4096.Idx) (q : dot_S256x256_S256x4096_S256x4096_1_0_0_1_n_n.contr.Idx) : (dot_S256x256_S256x4096_S256x4096_1_0_0_1_n_n.lhsIdx j q 1).val = (q ⟨0, by decide⟩).val :=
  dot_S256x256_S256x4096_S256x4096_1_0_0_1_n_n.lhsIdx_val_of_single rfl j q

/-- Axis 1 of the right operand's index in a product's term. -/
theorem dot_rhs1 (j : S256x4096.Idx) (q : dot_S256x256_S256x4096_S256x4096_1_0_0_1_n_n.contr.Idx) : (dot_S256x256_S256x4096_S256x4096_1_0_0_1_n_n.rhsIdx j q 1).val = (j 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-- Axis 0 of the right operand's index in a product's term. -/
theorem dot_rhs0 (j : S256x4096.Idx) (q : dot_S256x256_S256x4096_S256x4096_1_0_0_1_n_n.contr.Idx) : (dot_S256x256_S256x4096_S256x4096_1_0_0_1_n_n.rhsIdx j q 0).val = (q ⟨0, by decide⟩).val :=
  dot_S256x256_S256x4096_S256x4096_1_0_0_1_n_n.rhsIdx_val_of_single rfl j q

/-- The plain matrix product. -/
theorem dot_apply (l : S256x256.Idx → EReal) (r : S256x4096.Idx → EReal) (o : Fin 256) (i : Fin 4096) :
    matmul (F := Ideal) (φ₁ := .f32) (φ₂ := .f32) dot_S256x256_S256x4096_S256x4096_1_0_0_1_n_n none l r (constant S256x4096 .f32 0x00000000#32) (ix2 o i)
      = ∑ k : Fin 256, l (ix2 o k) * r (ix2 k i) := by
  refine (Ideal.matmul_constant_zero_apply dot_S256x256_S256x4096_S256x4096_1_0_0_1_n_n none l r (ix2 o i)).trans ?_
  rw [← Equiv.sum_comp (ValueIdx.contrEquiv1 dot_S256x256_S256x4096_S256x4096_1_0_0_1_n_n 256 rfl rfl).symm]
  refine Finset.sum_congr rfl fun k _ => ?_
  have hk := ValueIdx.contrEquiv1_symm_val dot_S256x256_S256x4096_S256x4096_1_0_0_1_n_n 256 rfl rfl k
  have el : dot_S256x256_S256x4096_S256x4096_1_0_0_1_n_n.lhsIdx (ix2 o i) ((ValueIdx.contrEquiv1 dot_S256x256_S256x4096_S256x4096_1_0_0_1_n_n 256 rfl rfl).symm k) = ix2 o k := funext fun a => Fin.ext (by
    match a with
    | ⟨0, _⟩ => exact dot_lhs0 _ _
    | ⟨1, _⟩ => exact (dot_lhs1 _ _).trans hk)
  have er : dot_S256x256_S256x4096_S256x4096_1_0_0_1_n_n.rhsIdx (ix2 o i) ((ValueIdx.contrEquiv1 dot_S256x256_S256x4096_S256x4096_1_0_0_1_n_n 256 rfl rfl).symm k) = ix2 k i := funext fun a => Fin.ext (by
    match a with
    | ⟨1, _⟩ => exact dot_rhs1 _ _
    | ⟨0, _⟩ => exact (dot_rhs0 _ _).trans hk)
  rw [el, er]

end Cert.KernelIdeal.Pay
-- ==== Proof.Host.lean ====
/- What the lines of host operations between the kernels leave in the buffers the kernels read, from any contents
   before them: each normalisation's scales and shifts, and a few changes of layout. -/
module

public import Idealize.ShloMosaic.Lib.IdealHost
public import proofs.«01_k».proof.Proof.Layout
public import proofs.«01_k».proof.Proof.Spec
public import proofs.«01_k».proof.Proof.Gen.KernelIdeal.Frame

@[expose] public section

set_option maxRecDepth 16384

noncomputable section

namespace Cert.KernelIdeal.Host

open Cert.KernelIdeal Cert.KernelIdeal.Gen Cert.KernelIdeal.Pay Cert.Value
open Idealize.ShloMosaic Idealize.ShloMosaic.TcCoe Idealize.ShloMosaic.ValueIdx

/-- A channel vector of one repeated literal. -/
abbrev lit (w : BitVec 32) : S256.Idx → EReal := broadcastInDim S256 ![] bcast_S_S256 (constant (F := Ideal) S_ .f32 w)

/-- A row of totals divided by the number of values in a channel. -/
def meanV (s : S1x256.Idx → EReal) : S256.Idx → EReal :=
  Host.divf (F := Ideal) (φ := .f32) (shapeCast S256 s shapeCasts_S1x256_S256) (lit 0x47800000#32)

/-- The scales the host lines compute from a layer's gains and its channel totals. -/
def scaleV (g : S256.Idx → EReal) (s ss : S1x256.Idx → EReal) : S256.Idx → EReal :=
  Host.divf (F := Ideal) (φ := .f32) g (Host.sqrt (F := Ideal) (φ := .f32) (addf (F := Ideal) (φ := .f32)
    (subf (F := Ideal) (φ := .f32) (meanV ss) (mulf (F := Ideal) (φ := .f32) (meanV s) (meanV s))) (lit 0x3727C5AC#32)))

/-- The shifts the host lines compute from a layer's gains and offsets and its channel totals. -/
def shiftV (g be : S256.Idx → EReal) (s ss : S1x256.Idx → EReal) : S256.Idx → EReal :=
  subf (F := Ideal) (φ := .f32) be (mulf (F := Ideal) (φ := .f32) (scaleV g s ss) (meanV s))

/-- A channel's mean. -/
theorem meanV_apply (s : S1x256.Idx → EReal) (o : Fin 256) : meanV s (ix1 o) = Ideal.div (s (ix2 0 o)) cnt := by
  unfold meanV
  rw [hostDivf_apply, uncol_apply]
  rfl

/-- A channel's scale. -/
theorem scaleV_apply (g : S256.Idx → EReal) (s ss : S1x256.Idx → EReal) (o : Fin 256) :
    scaleV g s ss (ix1 o) = kscale cnt eps (g (ix1 o)) (s (ix2 0 o)) (ss (ix2 0 o)) := by
  have e : addf (F := Ideal) (φ := .f32) (subf (F := Ideal) (φ := .f32) (meanV ss) (mulf (F := Ideal) (φ := .f32) (meanV s) (meanV s)))
      (lit 0x3727C5AC#32) (ix1 o)
      = meanV ss (ix1 o) - meanV s (ix1 o) * meanV s (ix1 o) + eps := rfl
  unfold scaleV kscale
  rw [hostDivf_apply, ← meanV_apply, ← meanV_apply, ← e]
  rfl

/-- A channel's shift. -/
theorem shiftV_apply (g be : S256.Idx → EReal) (s ss : S1x256.Idx → EReal) (o : Fin 256) :
    shiftV g be s ss (ix1 o) = kshift cnt eps (g (ix1 o)) (be (ix1 o)) (s (ix2 0 o)) (ss (ix2 0 o)) := by
  unfold kshift
  rw [← meanV_apply, ← scaleV_apply]
  rfl

variable (V : Valuation τ sig (Elt Ideal))

/-- Before the first kernel: the known points with their two last axes exchanged. -/
theorem ops0_v0 (b : Fin 16) (a : Fin 3) (k : Fin 1024) :
    StableHlo.after (hostOps0 (F := Ideal)) V (Proc.devRef .tc main_v0) (ix3 b a k) = V (Proc.devRef .tc main_arg1) (ix3 b k a) := by
  after_results
  exact transpose_apply [0, 2, 1] _ _ (ix3 b a k) (ix3 b k a) fun d => match d with | ⟨0, _⟩ => rfl | ⟨1, _⟩ => rfl | ⟨2, _⟩ => rfl

/-- Before the first kernel: its bias as a column. -/
theorem ops0_v1 (o : Fin 256) :
    StableHlo.after (hostOps0 (F := Ideal)) V (Proc.devRef .tc main_v1) (ix2 o 0) = V (Proc.devRef .tc main_arg5) (ix1 o) := by
  have e : StableHlo.after (hostOps0 (F := Ideal)) V (Proc.devRef .tc main_v1)
      = shapeCast (α := EReal) S256x1 (V (Proc.devRef .tc main_arg5)) shapeCasts_S256_S256x1 := by after_results; rfl
  rw [e]
  exact col_apply _ _ o

/-- Before the second kernel: its bias as a column. -/
theorem ops1_v17 (o : Fin 256) :
    StableHlo.after (hostOps1 (F := Ideal)) V (Proc.devRef .tc main_v17) (ix2 o 0) = V (Proc.devRef .tc main_arg9) (ix1 o) := by
  have e : StableHlo.after (hostOps1 (F := Ideal)) V (Proc.devRef .tc main_v17)
      = shapeCast (α := EReal) S256x1 (V (Proc.devRef .tc main_arg9)) shapeCasts_S256_S256x1 := by after_results; rfl
  rw [e]
  exact col_apply _ _ o

/-- Before the second kernel: the scales of the normalisation it applies. -/
theorem ops1_scale (o : Fin 256) : StableHlo.after (hostOps1 (F := Ideal)) V (Proc.devRef .tc main_v18) (ix2 o 0)
    = kscale cnt eps (V (Proc.devRef .tc main_arg6) (ix1 o)) (V (Proc.devRef .tc main_v2_1) (ix2 0 o)) (V (Proc.devRef .tc main_v2_2) (ix2 0 o)) := by
  have e : StableHlo.after (hostOps1 (F := Ideal)) V (Proc.devRef .tc main_v18)
      = shapeCast (α := EReal) S256x1 (scaleV (V (Proc.devRef .tc main_arg6)) (V (Proc.devRef .tc main_v2_1)) (V (Proc.devRef .tc main_v2_2))) shapeCasts_S256_S256x1 := by
    after_results; rfl
  rw [e]
  exact (col_apply _ _ o).trans (scaleV_apply _ _ _ o)

/-- Before the second kernel: the shifts of the normalisation it applies. -/
theorem ops1_shift (o : Fin 256) : StableHlo.after (hostOps1 (F := Ideal)) V (Proc.devRef .tc main_v19) (ix2 o 0)
    = kshift cnt eps (V (Proc.devRef .tc main_arg6) (ix1 o)) (V (Proc.devRef .tc main_arg7) (ix1 o)) (V (Proc.devRef .tc main_v2_1) (ix2 0 o))
        (V (Proc.devRef .tc main_v2_2) (ix2 0 o)) := by
  have e : StableHlo.after (hostOps1 (F := Ideal)) V (Proc.devRef .tc main_v19)
      = shapeCast (α := EReal) S256x1 (shiftV (V (Proc.devRef .tc main_arg6)) (V (Proc.devRef .tc main_arg7)) (V (Proc.devRef .tc main_v2_1)) (V (Proc.devRef .tc main_v2_2))) shapeCasts_S256_S256x1 := by
    after_results; rfl
  rw [e]
  exact (col_apply _ _ o).trans (shiftV_apply _ _ _ _ o)

/-- Before the third kernel: the scales of the normalisation it applies. -/
theorem ops2_scale (o : Fin 256) : StableHlo.after (hostOps2 (F := Ideal)) V (Proc.devRef .tc main_v35) (ix2 o 0)
    = kscale cnt eps (V (Proc.devRef .tc main_arg10) (ix1 o)) (V (Proc.devRef .tc main_v20_1) (ix2 0 o)) (V (Proc.devRef .tc main_v20_2) (ix2 0 o)) := by
  have e : StableHlo.after (hostOps2 (F := Ideal)) V (Proc.devRef .tc main_v35)
      = shapeCast (α := EReal) S256x1 (scaleV (V (Proc.devRef .tc main_arg10)) (V (Proc.devRef .tc main_v20_1)) (V (Proc.devRef .tc main_v20_2))) shapeCasts_S256_S256x1 := by
    after_results; rfl
  rw [e]
  exact (col_apply _ _ o).trans (scaleV_apply _ _ _ o)

/-- Before the third kernel: the shifts of the normalisation it applies. -/
theorem ops2_shift (o : Fin 256) : StableHlo.after (hostOps2 (F := Ideal)) V (Proc.devRef .tc main_v36) (ix2 o 0)
    = kshift cnt eps (V (Proc.devRef .tc main_arg10) (ix1 o)) (V (Proc.devRef .tc main_arg11) (ix1 o)) (V (Proc.devRef .tc main_v20_1) (ix2 0 o))
        (V (Proc.devRef .tc main_v20_2) (ix2 0 o)) := by
  have e : StableHlo.after (hostOps2 (F := Ideal)) V (Proc.devRef .tc main_v36)
      = shapeCast (α := EReal) S256x1 (shiftV (V (Proc.devRef .tc main_arg10)) (V (Proc.devRef .tc main_arg11)) (V (Proc.devRef .tc main_v20_1)) (V (Proc.devRef .tc main_v20_2))) shapeCasts_S256_S256x1 := by
    after_results; rfl
  rw [e]
  exact (col_apply _ _ o).trans (shiftV_apply _ _ _ _ o)

end Cert.KernelIdeal.Host
-- ==== Proof.Payload.lean ====
/- What the kernel's three functions compute at one grid point, read at an index. -/
module

public import proofs.«01_k».proof.Proof.Layout

@[expose] public section

set_option maxRecDepth 16384

noncomputable section

namespace Cert.KernelIdeal.Pay

open Cert.KernelIdeal Cert.KernelIdeal.Gen Cert.Value
open Idealize.ShloMosaic Idealize.ShloMosaic.ValueIdx

/-- The squared distances between the rows of a block of query points and the columns of a block of known points. -/
abbrev bd2 (v0 : S1x4096x3.Idx → EReal) (v2 : S1x3x1024.Idx → EReal) (i : Fin 4096) (k : Fin 1024) : EReal :=
  ∑ a : Fin 3, (v0 (ix3 0 i a) - v2 (ix3 0 a k)) * (v0 (ix3 0 i a) - v2 (ix3 0 a k))

section
variable (v0 : S1x4096x3.Idx → EReal) (v2 : S1x3x1024.Idx → EReal)

/-- The squared distances at an index. -/
theorem pay3_apply (i : Fin 4096) (k : Fin 1024) : k0_pay3 (F := Ideal) v0 v2 (ix2 i k) = bd2 v0 v2 i k := by
  have hc : ∀ (a : Fin 3) (e : S4096x3.Slices ![0, a.val] S4096x1) (e' : S1x4096x3.ShapeCasts S4096x3)
      (e'' : S4096x1.Broadcasts S4096x1024),
      broadcastTo S4096x1024 (extractStridedSlice S4096x1 ![0, a.val] (shapeCast S4096x3 v0 e') e) e'' (ix2 i k)
        = v0 (ix3 0 i a) := fun a e e' e'' =>
    (colBcast_apply _ e'' i k).trans ((sliceCol_apply a _ e i).trans (drop_apply v0 e' i a))
  have hr : ∀ (a : Fin 3) (e : S3x1024.Slices ![a.val, 0] S1x1024) (e' : S1x3x1024.ShapeCasts S3x1024)
      (e'' : S1x1024.Broadcasts S4096x1024),
      broadcastTo S4096x1024 (extractStridedSlice S1x1024 ![a.val, 0] (shapeCast S3x1024 v2 e') e) e'' (ix2 i k)
        = v2 (ix3 0 a k) := fun a e e' e'' =>
    (rowBcast_apply _ e'' i k).trans ((sliceRow_apply a _ e k).trans (drop_apply v2 e' a k))
  show _ = ∑ a : Fin 3, _
  rw [Fin.sum_univ_three, ← hc 0 slices_S4096x3_o0_0_S4096x1 shapeCasts_S1x4096x3_S4096x3 broadcasts_S4096x1_S4096x1024,
    ← hc 1 slices_S4096x3_o0_1_S4096x1 shapeCasts_S1x4096x3_S4096x3 broadcasts_S4096x1_S4096x1024,
    ← hc 2 slices_S4096x3_o0_2_S4096x1 shapeCasts_S1x4096x3_S4096x3 broadcasts_S4096x1_S4096x1024,
    ← hr 0 slices_S3x1024_o0_0_S1x1024 shapeCasts_S1x3x1024_S3x1024 broadcasts_S1x1024_S4096x1024,
    ← hr 1 slices_S3x1024_o1_0_S1x1024 shapeCasts_S1x3x1024_S3x1024 broadcasts_S1x1024_S4096x1024,
    ← hr 2 slices_S3x1024_o2_0_S1x1024 shapeCasts_S1x3x1024_S3x1024 broadcasts_S1x1024_S4096x1024]
  rfl

/-- The literal of infinity. -/
theorem top_bits : FloatOps.ofBits (F := Ideal) .f32 0x7F800000#32 = (⊤ : EReal) := by
  show Ideal.ofBits .f32 0x7F800000#32 = ⊤
  simp [Ideal.ofBits, Ideal.ieee]

/-- The literal of zero. -/
theorem zero_bits : FloatOps.ofBits (F := Ideal) .f32 0x00000000#32 = (0 : EReal) := Ideal.ofBits_zero_f32

/-- The literal of one. -/
theorem one_bits : FloatOps.ofBits (F := Ideal) .f32 0x3F800000#32 = (1 : EReal) := by
  show Ideal.ofBits .f32 0x3F800000#32 = 1
  simp [Ideal.ofBits, Ideal.ieee, -EReal.coe_mul]; norm_num

/-- Choosing by an ordered `≤`. -/
theorem select_le {s : Shape} (a b x y : s.Idx → EReal) (j : s.Idx) :
    select (cmpf (F := Ideal) (φ := .f32) .ole a b) x y j = if a j ≤ b j then x j else y j := by
  by_cases h : a j ≤ b j
  · rw [if_pos h]
    rw [select_apply, show cmpf (F := Ideal) (φ := .f32) .ole a b j = 1#1 by rw [cmpf_apply]; simp [Ideal.cmpf_def, Ideal.cmp, h], select_one]
  · rw [if_neg h]
    rw [select_apply, show cmpf (F := Ideal) (φ := .f32) .ole a b j = 0#1 by rw [cmpf_apply]; simp [Ideal.cmpf_def, Ideal.cmp, h], select_zero]

/-- The column of the rows' least entries. -/
theorem colMin_apply (y : S4096x1024.Idx → EReal) (hφ : FKind.Formats .f32)
    (hacc : (0x7F800000#32 : BitVec FTy.f32.bits) = FKind.minimumf.neutral .f32 hφ) (i : Fin 4096) :
    shapeCast S4096x1 (multiReduction (F := Ideal) (φ := .f32) .minimumf [1] S4096 y 0x7F800000#32 reduces_S4096x1024_S4096 hφ hacc) shapeCasts_S4096_S4096x1 (ix2 i 0)
      = least fun k : Fin 1024 => y (ix2 i k) := by
  rw [col_apply (h := 4096) _ shapeCasts_S4096_S4096x1 i]
  exact rowMin_apply (h := 4096) (w := 1024) y reduces_S4096x1024_S4096 hφ hacc i

/-- The first minimum of each row. -/
theorem pay4_apply (i : Fin 4096) : k0_pay4 (F := Ideal) v0 v2 (ix2 i 0) = least (bd2 v0 v2 i) := by
  unfold k0_pay4
  refine (colMin_apply _ _ _ i).trans ?_
  exact congrArg least (funext fun k => pay3_apply v0 v2 i k)

/-- The distances above a column of thresholds. -/
theorem masked_apply (m : S4096x1.Idx → EReal) (i : Fin 4096) (k : Fin 1024) :
    select (cmpf (F := Ideal) (φ := .f32) .ole (k0_pay3 (F := Ideal) v0 v2) (broadcastTo S4096x1024 m broadcasts_S4096x1_S4096x1024))
        (broadcast S4096x1024 (Scalar.ofBits (F := Ideal) .f32 0x7F800000#32)) (k0_pay3 (F := Ideal) v0 v2) (ix2 i k)
      = above (bd2 v0 v2 i) (m (ix2 i 0)) k := by
  rw [select_le, pay3_apply, colBcast_apply m broadcasts_S4096x1_S4096x1024 i k, broadcast_apply]
  show (if _ then FloatOps.ofBits (F := Ideal) .f32 0x7F800000#32 else _) = _
  rw [top_bits]
  rfl

/-- The second minimum of each row. -/
theorem pay5_apply (i : Fin 4096) : k0_pay5 (F := Ideal) v0 v2 (ix2 i 0) = least2 (bd2 v0 v2 i) := by
  unfold k0_pay5
  refine (colMin_apply _ _ _ i).trans ?_
  exact congrArg least (funext fun k => (masked_apply v0 v2 _ i k).trans (by rw [pay4_apply]))

/-- The third minimum of each row. -/
theorem pay6_apply (i : Fin 4096) : k0_pay6 (F := Ideal) v0 v2 (ix2 i 0) = least3 (bd2 v0 v2 i) := by
  unfold k0_pay6
  refine (colMin_apply _ _ _ i).trans ?_
  exact congrArg least (funext fun k => (masked_apply v0 v2 _ i k).trans (by rw [pay5_apply]))

/-- The reciprocal root at an index. -/
theorem rsqrt_apply {s : Shape} (x : s.Idx → EReal) (j : s.Idx) : rsqrt (F := Ideal) (φ := .f32) x j = Ideal.rsqrt (x j) := rfl

/-- One over the sum of the three minima's reciprocal roots. -/
theorem pay8_apply (i : Fin 4096) : k0_pay8 (F := Ideal) v0 v2 (ix2 i 0)
    = Ideal.rsqrt (least (bd2 v0 v2 i)) + Ideal.rsqrt (least2 (bd2 v0 v2 i)) + Ideal.rsqrt (least3 (bd2 v0 v2 i)) := by
  unfold k0_pay8
  rw [addf_apply, addf_apply, rsqrt_apply, rsqrt_apply, rsqrt_apply, pay4_apply, pay5_apply, pay6_apply]

/-- The matrix of interpolation weights. -/
theorem weight_apply (i : Fin 4096) (k : Fin 1024) :
    select (k0_pay7 (F := Ideal) v0 v2)
        (mulf (F := Ideal) (φ := .f32) (rsqrt (F := Ideal) (φ := .f32) (k0_pay3 (F := Ideal) v0 v2))
          (broadcastTo S4096x1024 (divf (F := Ideal) (φ := .f32) (k0_pay9 (F := Ideal)) (k0_pay8 (F := Ideal) v0 v2)) broadcasts_S4096x1_S4096x1024))
        (broadcast S4096x1024 (Scalar.ofBits (F := Ideal) .f32 0x00000000#32)) (ix2 i k)
      = kweight (bd2 v0 v2 i) k := by
  unfold k0_pay7
  rw [select_le, colBcast_apply (h := 4096) (w := 1024) (k0_pay6 (F := Ideal) v0 v2) broadcasts_S4096x1_S4096x1024 i k, pay3_apply, pay6_apply, mulf_apply,
    colBcast_apply (h := 4096) (w := 1024) _ broadcasts_S4096x1_S4096x1024 i k, divf_apply, pay8_apply, broadcast_apply, rsqrt_apply, pay3_apply]
  have e1 : k0_pay9 (F := Ideal) (ix2 i 0) = (1 : EReal) := one_bits
  have e3 : (Scalar.ofBits (F := Ideal) .f32 0x00000000#32) = (0 : EReal) := zero_bits
  rw [e1, e3, kweight]

variable (v52 : S1x256x1024.Idx → EReal) (v55 v57 : S256x256.Idx → EReal) (v58 : S1x256x4096.Idx → EReal) (v62 : S256x1.Idx → EReal)

/-- The first layer of one batch before its normalisation. -/
def row0 (o : Fin 256) (i : Fin 4096) : EReal :=
  (∑ c : Fin 256, v55 (ix2 o c) * ∑ k : Fin 1024, v52 (ix3 0 c k) * kweight (bd2 v0 v2 i) k)
    + (∑ c : Fin 256, v57 (ix2 o c) * v58 (ix3 0 c i)) + v62 (ix2 o 0)

/-- The printed value of the first layer. -/
abbrev p10 : S256x4096.Idx → EReal :=
  k0_pay10 (F := Ideal) (k0_pay3 (F := Ideal) v0 v2) (k0_pay7 (F := Ideal) v0 v2) (k0_pay8 (F := Ideal) v0 v2) (k0_pay9 (F := Ideal)) v52 v55 v57 v58 v62

/-- The first layer's sums at an index. -/
theorem pay10_apply (o : Fin 256) (i : Fin 4096) :
    p10 v0 v2 v52 v55 v57 v58 v62 (ix2 o i) = row0 v0 v2 v52 v55 v57 v58 v62 o i := by
  refine congrArg₂ (· + ·) (congrArg₂ (· + ·) ?_ ?_) ?_
  · refine (dot_apply v55 _ o i).trans (Finset.sum_congr rfl fun c _ => congrArg (v55 (ix2 o c) * ·) ?_)
    refine (dotCols_apply _ _ c i).trans (Finset.sum_congr rfl fun k _ => congrArg₂ (· * ·) ?_ ?_)
    · exact drop_apply v52 shapeCasts_S1x256x1024_S256x1024 c k
    · exact weight_apply v0 v2 i k
  · refine (dot_apply v57 _ o i).trans (Finset.sum_congr rfl fun c _ => congrArg (v57 (ix2 o c) * ·) ?_)
    exact drop_apply v58 shapeCasts_S1x256x4096_S256x4096 c i
  · exact (colBcast_apply _ broadcasts_S256x1_S256x4096 o i).trans (same_apply v62 shapeCasts_S256x1_S256x1 _)

/-- The block of the first layer. -/
theorem pay11_apply (o : Fin 256) (i : Fin 4096) :
    k0_pay11 (F := Ideal) (k0_pay3 (F := Ideal) v0 v2) (k0_pay7 (F := Ideal) v0 v2) (k0_pay8 (F := Ideal) v0 v2) (k0_pay9 (F := Ideal)) v52 v55 v57 v58 v62 (ix3 0 o i)
      = row0 v0 v2 v52 v55 v57 v58 v62 o i :=
  (add_apply _ shapeCasts_S256x4096_S1x256x4096 o i).trans (pay10_apply v0 v2 v52 v55 v57 v58 v62 o i)

end

/-- A running row plus the row sums of a matrix. -/
theorem addRowSum_apply (s : S1x256.Idx → EReal) (y : S256x4096.Idx → EReal) (hφ : FKind.Formats .f32)
    (hacc : (0x00000000#32 : BitVec FTy.f32.bits) = FKind.add.neutral .f32 hφ) (o : Fin 256) :
    addf (F := Ideal) (φ := .f32) s (transpose S1x256 [1, 0] (shapeCast S256x1 (multiReduction (F := Ideal) (φ := .f32) .add [1] S256 y 0x00000000#32 reduces_S256x4096_S256 hφ hacc) shapeCasts_S256_S256x1) transposes_S256x1_p1_0_S1x256) (ix2 0 o)
      = s (ix2 0 o) + ∑ i : Fin 4096, y (ix2 o i) := by
  refine congrArg (s (ix2 0 o) + ·) ?_
  exact (turn_apply _ transposes_S256x1_p1_0_S1x256 o).trans ((col_apply _ shapeCasts_S256_S256x1 o).trans (rowSum_apply y _ _ _ _ o))

section
variable (v0 : S1x4096x3.Idx → EReal) (v2 : S1x3x1024.Idx → EReal) (v52 : S1x256x1024.Idx → EReal) (v55 v57 : S256x256.Idx → EReal) (v58 : S1x256x4096.Idx → EReal) (v62 : S256x1.Idx → EReal)
  (s : S1x256.Idx → EReal)

/-- The running sum of the first layer. -/
theorem sum0_apply (o : Fin 256) :
    k0_pay1 (F := Ideal) (k0_pay14 (F := Ideal) s) (k0_pay15 (F := Ideal) (k0_pay3 (F := Ideal) v0 v2) (k0_pay7 (F := Ideal) v0 v2) (k0_pay8 (F := Ideal) v0 v2) (k0_pay9 (F := Ideal)) v52 v55 v57 v58 v62) (ix2 0 o)
      = s (ix2 0 o) + ∑ i : Fin 4096, row0 v0 v2 v52 v55 v57 v58 v62 o i := by
  refine (addRowSum_apply (shapeCast S1x256 s shapeCasts_S1x256_S1x256) (p10 v0 v2 v52 v55 v57 v58 v62) (.inl rfl) rfl o).trans ?_
  refine congrArg₂ (· + ·) (same_apply s _ _) (Finset.sum_congr rfl fun i _ => ?_)
  exact pay10_apply v0 v2 v52 v55 v57 v58 v62 o i

/-- The running sum of squares of the first layer. -/
theorem sumsq0_apply (o : Fin 256) :
    k0_pay2 (F := Ideal) (p10 v0 v2 v52 v55 v57 v58 v62) s (ix2 0 o)
      = s (ix2 0 o) + ∑ i : Fin 4096, row0 v0 v2 v52 v55 v57 v58 v62 o i * row0 v0 v2 v52 v55 v57 v58 v62 o i := by
  refine (addRowSum_apply (shapeCast S1x256 s shapeCasts_S1x256_S1x256) (mulf (F := Ideal) (φ := .f32) (p10 v0 v2 v52 v55 v57 v58 v62) (p10 v0 v2 v52 v55 v57 v58 v62)) (.inl rfl) rfl o).trans ?_
  refine congrArg₂ (· + ·) (same_apply s _ _) (Finset.sum_congr rfl fun i _ => ?_)
  rw [mulf_apply, pay10_apply]

/-- The totals start at zero. -/
theorem zero12 (o : Fin 256) : k0_pay12 (F := Ideal) (ix2 0 o) = (0 : EReal) := zero_bits
/-- The totals of squares start at zero. -/
theorem zero13 (o : Fin 256) : k0_pay13 (F := Ideal) (ix2 0 o) = (0 : EReal) := zero_bits
end

section
variable (v0 : S1x256x4096.Idx → EReal) (v3 v7 : S256x1.Idx → EReal)

/-- Scale, shift and cut at zero: one entry. -/
abbrev act (c : Fin 256) (i : Fin 4096) : EReal := max (v0 (ix3 0 c i) * v3 (ix2 c 0) + v7 (ix2 c 0)) 0

/-- The scaled, shifted and cut block at an index. -/
theorem act_apply (c : Fin 256) (i : Fin 4096) :
    maximumf (F := Ideal) (φ := .f32) (addf (F := Ideal) (φ := .f32) (mulf (F := Ideal) (φ := .f32)
        (extf (F := Ideal) (φ := .bf16) .f32 (shapeCast S256x4096 v0 shapeCasts_S1x256x4096_S256x4096) bitsLt_bf16_f32)
        (broadcastTo S256x4096 (shapeCast S256x1 v3 shapeCasts_S256x1_S256x1) broadcasts_S256x1_S256x4096))
        (broadcastTo S256x4096 (shapeCast S256x1 v7 shapeCasts_S256x1_S256x1) broadcasts_S256x1_S256x4096))
        (broadcast S256x4096 (Scalar.ofBits (F := Ideal) .f32 0x00000000#32)) (ix2 c i)
      = act v0 v3 v7 c i := by
  refine congrArg₂ max (congrArg₂ (· + ·) (congrArg₂ (· * ·) ?_ ?_) ?_) zero_bits
  · exact drop_apply v0 shapeCasts_S1x256x4096_S256x4096 c i
  · exact (colBcast_apply _ broadcasts_S256x1_S256x4096 c i).trans (same_apply v3 shapeCasts_S256x1_S256x1 _)
  · exact (colBcast_apply _ broadcasts_S256x1_S256x4096 c i).trans (same_apply v7 shapeCasts_S256x1_S256x1 _)

/-- The last function's block. -/
theorem out_apply (c : Fin 256) (i : Fin 4096) : k2_pay1 (F := Ideal) v0 v3 v7 (ix3 0 c i) = act v0 v3 v7 c i :=
  (add_apply _ shapeCasts_S256x4096_S1x256x4096 c i).trans (act_apply v0 v3 v7 c i)

variable (v13 : S256x256.Idx → EReal) (v15 : S256x1.Idx → EReal) (s : S1x256.Idx → EReal)

/-- The second layer of one batch before its normalisation. -/
def row1 (o : Fin 256) (i : Fin 4096) : EReal := (∑ c : Fin 256, v13 (ix2 o c) * act v0 v3 v7 c i) + v15 (ix2 o 0)

/-- The second layer's sums at an index. -/
theorem k1pay2_apply (o : Fin 256) (i : Fin 4096) : k1_pay2 (F := Ideal) v0 v3 v7 v13 v15 (ix2 o i) = row1 v0 v3 v7 v13 v15 o i := by
  refine congrArg₂ (· + ·) ?_ ?_
  · refine (dot_apply v13 _ o i).trans (Finset.sum_congr rfl fun c _ => congrArg (v13 (ix2 o c) * ·) ?_)
    exact act_apply v0 v3 v7 c i
  · exact (colBcast_apply _ broadcasts_S256x1_S256x4096 o i).trans (same_apply v15 shapeCasts_S256x1_S256x1 _)

/-- The block of the second layer. -/
theorem k1pay3_apply (o : Fin 256) (i : Fin 4096) : k1_pay3 (F := Ideal) v0 v3 v7 v13 v15 (ix3 0 o i) = row1 v0 v3 v7 v13 v15 o i :=
  (add_apply _ shapeCasts_S256x4096_S1x256x4096 o i).trans (k1pay2_apply v0 v3 v7 v13 v15 o i)

/-- The running sum of the second layer. -/
theorem sum1_apply (o : Fin 256) :
    k1_pay6 (F := Ideal) v0 v3 v7 v13 v15 s (ix2 0 o) = s (ix2 0 o) + ∑ i : Fin 4096, row1 v0 v3 v7 v13 v15 o i := by
  refine (addRowSum_apply (shapeCast S1x256 s shapeCasts_S1x256_S1x256) (k1_pay2 (F := Ideal) v0 v3 v7 v13 v15) (.inl rfl) rfl o).trans ?_
  exact congrArg₂ (· + ·) (same_apply s _ _) (Finset.sum_congr rfl fun i _ => k1pay2_apply v0 v3 v7 v13 v15 o i)

/-- The running sum of squares of the second layer. -/
theorem sumsq1_apply (o : Fin 256) :
    k1_pay1 (F := Ideal) (k1_pay2 (F := Ideal) v0 v3 v7 v13 v15) s (ix2 0 o)
      = s (ix2 0 o) + ∑ i : Fin 4096, row1 v0 v3 v7 v13 v15 o i * row1 v0 v3 v7 v13 v15 o i := by
  refine (addRowSum_apply (shapeCast S1x256 s shapeCasts_S1x256_S1x256) (mulf (F := Ideal) (φ := .f32) (k1_pay2 (F := Ideal) v0 v3 v7 v13 v15) (k1_pay2 (F := Ideal) v0 v3 v7 v13 v15)) (.inl rfl) rfl o).trans ?_
  refine congrArg₂ (· + ·) (same_apply s _ _) (Finset.sum_congr rfl fun i _ => ?_)
  rw [mulf_apply, k1pay2_apply]

/-- The totals start at zero. -/
theorem zero4 (o : Fin 256) : k1_pay4 (F := Ideal) (ix2 0 o) = (0 : EReal) := zero_bits
/-- The totals of squares start at zero. -/
theorem zero5 (o : Fin 256) : k1_pay5 (F := Ideal) (ix2 0 o) = (0 : EReal) := zero_bits
end

end Cert.KernelIdeal.Pay
-- ==== Proof.Region0Out.lean ====
/- What the first kernel function leaves in its output blocks at one grid point, as its payloads of the input blocks. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Region0

open Cert.KernelIdeal Cert.KernelIdeal.Gen
open Idealize.ShloMosaic Idealize.ShloMosaic.TcCoe Idealize.ShloMosaic.Tactic Idealize.SL.Sem

variable {F : FTy → Type} [FloatOps F]

/-- The offset written as a list is zero on every axis. -/
theorem hz3 : (![0, 0, 0] : Fin 3 → Nat) = fun _ => 0 := funext fun a => by fin_cases a <;> rfl
/-- The offset written as a list is zero on every axis. -/
theorem hz2 : (![0, 0] : Fin 2 → Nat) = fun _ => 0 := funext fun a => by fin_cases a <;> rfl

/-- The left half of the first layer's matrix. -/
abbrev rL : Rect S256x512 := Rect.unit (s := S256x512) ![0, 0] S256x256.size inb_S256x512_S256x256_0_0
/-- The right half of the first layer's matrix. -/
abbrev rR : Rect S256x512 := Rect.unit (s := S256x512) ![0, 256] S256x256.size inb_S256x512_S256x256_0_256

/-- At a first point: the block of the first layer. -/
theorem out_A_6 (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x256x4096 .f32) (harg4 : arg4.IsWhole) (arg5 : Memref sig .tc .vmem S1x256x1024 .f32) (harg5 : arg5.IsWhole) (arg6 : Memref sig .tc .vmem S256x512 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S1x256 .f32) (harg9 : arg9.IsWhole) (arg10 : Memref sig .tc .vmem S1x256 .f32) (harg10 : arg10.IsWhole) (hc : cond0_0 i)
    (x0 : Vec F S1x4096x3 .f32) (x1 : Vec F S1x3x1024 .f32) (x2 : Vec F S1x256x4096 .f32) (x3 : Vec F S1x256x1024 .f32) (x4 : Vec F S256x512 .f32) (x5 : Vec F S256x1 .f32)  :
    out0_A_6 c i arg2 harg2 arg3 harg3 arg4 harg4 arg5 harg5 arg6 harg6 arg7 harg7 arg8 harg8 arg9 harg9 arg10 harg10 hc x0 x1 x2 x3 x4 x5
      = k0_pay11 (k0_pay3 x0 x1) (k0_pay7 x0 x1) (k0_pay8 x0 x1) k0_pay9 x3 (View.ld x4 rL) (View.ld x4 rR) x2 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_unit_zero (S := S1x256x4096) hz3]
  simp only [View.readAt_eq_ld, harg2.read_unread, harg3.read_unread, harg4.read_unread, harg5.read_unread, harg6.read_unread, harg7.read_unread, View.ld_unit_zero (S := S1x4096x3) hz3, View.ld_unit_zero (S := S1x3x1024) hz3, View.ld_unit_zero (S := S1x256x4096) hz3, View.ld_unit_zero (S := S1x256x1024) hz3, View.ld_unit_zero (S := S256x1) hz2, View.ld_unit_zero (S := S1x256) hz2]

/-- At a first point: the running sum. -/
theorem out_A_7 (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x256x4096 .f32) (harg4 : arg4.IsWhole) (arg5 : Memref sig .tc .vmem S1x256x1024 .f32) (harg5 : arg5.IsWhole) (arg6 : Memref sig .tc .vmem S256x512 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S1x256 .f32) (harg9 : arg9.IsWhole) (arg10 : Memref sig .tc .vmem S1x256 .f32) (harg10 : arg10.IsWhole) (hc : cond0_0 i)
    (x0 : Vec F S1x4096x3 .f32) (x1 : Vec F S1x3x1024 .f32) (x2 : Vec F S1x256x4096 .f32) (x3 : Vec F S1x256x1024 .f32) (x4 : Vec F S256x512 .f32) (x5 : Vec F S256x1 .f32)  :
    out0_A_7 c i arg2 harg2 arg3 harg3 arg4 harg4 arg5 harg5 arg6 harg6 arg7 harg7 arg8 harg8 arg9 harg9 arg10 harg10 hc x0 x1 x2 x3 x4 x5
      = k0_pay1 (k0_pay14 k0_pay12) (k0_pay15 (k0_pay3 x0 x1) (k0_pay7 x0 x1) (k0_pay8 x0 x1) k0_pay9 x3 (View.ld x4 rL) (View.ld x4 rR) x2 x5) := by
  unfold out0_A_7
  rw [View.read_writes_eq_canon _ _ _ (cover0_A_7 c i arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg5.read_unread, harg6.read_unread, harg7.read_unread, View.ld_unit_zero (S := S1x4096x3) hz3, View.ld_unit_zero (S := S1x3x1024) hz3, View.ld_unit_zero (S := S1x256x4096) hz3, View.ld_unit_zero (S := S1x256x1024) hz3, View.ld_unit_zero (S := S256x1) hz2, View.ld_unit_zero (S := S1x256) hz2]

/-- At a first point: the running sum of squares. -/
theorem out_A_8 (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x256x4096 .f32) (harg4 : arg4.IsWhole) (arg5 : Memref sig .tc .vmem S1x256x1024 .f32) (harg5 : arg5.IsWhole) (arg6 : Memref sig .tc .vmem S256x512 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S1x256 .f32) (harg9 : arg9.IsWhole) (arg10 : Memref sig .tc .vmem S1x256 .f32) (harg10 : arg10.IsWhole) (hc : cond0_0 i)
    (x0 : Vec F S1x4096x3 .f32) (x1 : Vec F S1x3x1024 .f32) (x2 : Vec F S1x256x4096 .f32) (x3 : Vec F S1x256x1024 .f32) (x4 : Vec F S256x512 .f32) (x5 : Vec F S256x1 .f32)  :
    out0_A_8 c i arg2 harg2 arg3 harg3 arg4 harg4 arg5 harg5 arg6 harg6 arg7 harg7 arg8 harg8 arg9 harg9 arg10 harg10 hc x0 x1 x2 x3 x4 x5
      = k0_pay2 (k0_pay10 (k0_pay3 x0 x1) (k0_pay7 x0 x1) (k0_pay8 x0 x1) k0_pay9 x3 (View.ld x4 rL) (View.ld x4 rR) x2 x5) k0_pay13 := by
  unfold out0_A_8
  rw [View.read_writes_eq_canon _ _ _ (cover0_A_8 c i arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg4.read_unread, harg5.read_unread, harg6.read_unread, harg7.read_unread, View.ld_unit_zero (S := S1x4096x3) hz3, View.ld_unit_zero (S := S1x3x1024) hz3, View.ld_unit_zero (S := S1x256x4096) hz3, View.ld_unit_zero (S := S1x256x1024) hz3, View.ld_unit_zero (S := S256x1) hz2, View.ld_unit_zero (S := S1x256) hz2]

/-- At a later point: the block of the first layer. -/
theorem out_B_6 (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x256x4096 .f32) (harg4 : arg4.IsWhole) (arg5 : Memref sig .tc .vmem S1x256x1024 .f32) (harg5 : arg5.IsWhole) (arg6 : Memref sig .tc .vmem S256x512 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S1x256 .f32) (harg9 : arg9.IsWhole) (arg10 : Memref sig .tc .vmem S1x256 .f32) (harg10 : arg10.IsWhole) (hc : ¬cond0_0 i)
    (x0 : Vec F S1x4096x3 .f32) (x1 : Vec F S1x3x1024 .f32) (x2 : Vec F S1x256x4096 .f32) (x3 : Vec F S1x256x1024 .f32) (x4 : Vec F S256x512 .f32) (x5 : Vec F S256x1 .f32) (xo7 xo8 : Vec F S1x256 .f32) :
    out0_B_6 c i arg2 harg2 arg3 harg3 arg4 harg4 arg5 harg5 arg6 harg6 arg7 harg7 arg8 harg8 arg9 harg9 arg10 harg10 hc x0 x1 x2 x3 x4 x5 xo7 xo8
      = k0_pay11 (k0_pay3 x0 x1) (k0_pay7 x0 x1) (k0_pay8 x0 x1) k0_pay9 x3 (View.ld x4 rL) (View.ld x4 rR) x2 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc x0 x1 x2 x3 x4 x5 xo7 xo8)]
  unfold kernelRun0_B
  dsimp only
  sl_unfold_words
  rw [View.canon_unit_zero (S := S1x256x4096) hz3]
  simp only [View.readAt_eq_ld, harg2.read_unread, harg3.read_unread, harg4.read_unread, harg5.read_unread, harg6.read_unread, harg7.read_unread, harg9.read_unread, harg10.read_unread, View.ld_unit_zero (S := S1x4096x3) hz3, View.ld_unit_zero (S := S1x3x1024) hz3, View.ld_unit_zero (S := S1x256x4096) hz3, View.ld_unit_zero (S := S1x256x1024) hz3, View.ld_unit_zero (S := S256x1) hz2, View.ld_unit_zero (S := S1x256) hz2]

/-- At a later point: the running sum. -/
theorem out_B_7 (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x256x4096 .f32) (harg4 : arg4.IsWhole) (arg5 : Memref sig .tc .vmem S1x256x1024 .f32) (harg5 : arg5.IsWhole) (arg6 : Memref sig .tc .vmem S256x512 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S1x256 .f32) (harg9 : arg9.IsWhole) (arg10 : Memref sig .tc .vmem S1x256 .f32) (harg10 : arg10.IsWhole) (hc : ¬cond0_0 i)
    (x0 : Vec F S1x4096x3 .f32) (x1 : Vec F S1x3x1024 .f32) (x2 : Vec F S1x256x4096 .f32) (x3 : Vec F S1x256x1024 .f32) (x4 : Vec F S256x512 .f32) (x5 : Vec F S256x1 .f32) (xo7 xo8 : Vec F S1x256 .f32) :
    out0_B_7 c i arg2 harg2 arg3 harg3 arg4 harg4 arg5 harg5 arg6 harg6 arg7 harg7 arg8 harg8 arg9 harg9 arg10 harg10 hc x0 x1 x2 x3 x4 x5 xo7 xo8
      = k0_pay1 (k0_pay14 xo7) (k0_pay15 (k0_pay3 x0 x1) (k0_pay7 x0 x1) (k0_pay8 x0 x1) k0_pay9 x3 (View.ld x4 rL) (View.ld x4 rR) x2 x5) := by
  unfold out0_B_7
  rw [View.read_writes_eq_canon _ _ _ (cover0_B_7 c i arg2 harg2 arg3 harg3 arg4 harg4 arg5 harg5 arg6 harg6 arg7 harg7 arg8 harg8 arg9 harg9 arg10 harg10 hc x0 x1 x2 x3 x4 x5 xo7 xo8)]
  unfold kernelRun0_B
  dsimp only
  sl_unfold_words
  rw [View.canon_unit_zero (S := S1x256) hz2]
  simp only [View.readAt_eq_ld, harg2.read_unread, harg3.read_unread, harg4.read_unread, harg5.read_unread, harg6.read_unread, harg7.read_unread, harg9.read_unread, harg10.read_unread, View.ld_unit_zero (S := S1x4096x3) hz3, View.ld_unit_zero (S := S1x3x1024) hz3, View.ld_unit_zero (S := S1x256x4096) hz3, View.ld_unit_zero (S := S1x256x1024) hz3, View.ld_unit_zero (S := S256x1) hz2, View.ld_unit_zero (S := S1x256) hz2]

/-- At a later point: the running sum of squares. -/
theorem out_B_8 (c : Dev nD) (i : grid0.Coords) (arg2 : Memref sig .tc .vmem S1x4096x3 .f32) (harg2 : arg2.IsWhole) (arg3 : Memref sig .tc .vmem S1x3x1024 .f32) (harg3 : arg3.IsWhole) (arg4 : Memref sig .tc .vmem S1x256x4096 .f32) (harg4 : arg4.IsWhole) (arg5 : Memref sig .tc .vmem S1x256x1024 .f32) (harg5 : arg5.IsWhole) (arg6 : Memref sig .tc .vmem S256x512 .f32) (harg6 : arg6.IsWhole) (arg7 : Memref sig .tc .vmem S256x1 .f32) (harg7 : arg7.IsWhole) (arg8 : Memref sig .tc .vmem S1x256x4096 .bf16) (harg8 : arg8.IsWhole) (arg9 : Memref sig .tc .vmem S1x256 .f32) (harg9 : arg9.IsWhole) (arg10 : Memref sig .tc .vmem S1x256 .f32) (harg10 : arg10.IsWhole) (hc : ¬cond0_0 i)
    (x0 : Vec F S1x4096x3 .f32) (x1 : Vec F S1x3x1024 .f32) (x2 : Vec F S1x256x4096 .f32) (x3 : Vec F S1x256x1024 .f32) (x4 : Vec F S256x512 .f32) (x5 : Vec F S256x1 .f32) (xo7 xo8 : Vec F S1x256 .f32) :
    out0_B_8 c i arg2 harg2 arg3 harg3 arg4 harg4 arg5 harg5 arg6 harg6 arg7 harg7 arg8 harg8 arg9 harg9 arg10 harg10 hc x0 x1 x2 x3 x4 x5 xo7 xo8
      = k0_pay2 (k0_pay10 (k0_pay3 x0 x1) (k0_pay7 x0 x1) (k0_pay8 x0 x1) k0_pay9 x3 (View.ld x4 rL) (View.ld x4 rR) x2 x5) xo8 := by
  unfold out0_B_8
  rw [View.read_writes_eq_canon _ _ _ (cover0_B_8 c i arg2 harg2 arg3 harg3 arg4 harg4 arg5 harg5 arg6 harg6 arg7 harg7 arg8 harg8 arg9 harg9 arg10 harg10 hc x0 x1 x2 x3 x4 x5 xo7 xo8)]
  unfold kernelRun0_B
  dsimp only
  sl_unfold_words
  rw [View.canon_unit_zero (S := S1x256) hz2]
  simp only [View.readAt_eq_ld, harg2.read_unread, harg3.read_unread, harg4.read_unread, harg5.read_unread, harg6.read_unread, harg7.read_unread, harg9.read_unread, harg10.read_unread, View.ld_unit_zero (S := S1x4096x3) hz3, View.ld_unit_zero (S := S1x3x1024) hz3, View.ld_unit_zero (S := S1x256x4096) hz3, View.ld_unit_zero (S := S1x256x1024) hz3, View.ld_unit_zero (S := S256x1) hz2, View.ld_unit_zero (S := S1x256) hz2]

end Cert.KernelIdeal.Region0
-- ==== Proof.Region0.lean ====
/- The first kernel function over its grid: the arrays it leaves, index by index. -/
module

public import proofs.«01_k».proof.Proof.Payload
public import proofs.«01_k».proof.Proof.Region0Out

@[expose] public section

set_option maxRecDepth 16384

noncomputable section

namespace Cert.KernelIdeal.Region0

open Cert.KernelIdeal Cert.KernelIdeal.Gen Cert.KernelIdeal.Pay Cert.Value
open Idealize.ShloMosaic Idealize.ShloMosaic.ValueIdx Idealize.ShloMosaic.TcCoe Idealize.SL.Sem

variable (V : (c : Dev nD) → (b : Ref sig .tc) → Buf (Elt Ideal) ((c : Thread nD τ).loc b)) (c : Dev nD)

/-- The batch a grid point works on. -/
abbrev tb (t : Fin cfg0.N) : Fin 16 := ⟨t.val, by have := t.isLt; have h : cfg0.N = 16 := N_0; omega⟩

/-- Which block of its array the window is on at each point. -/
theorem idx_0 : ∀ t : Fin grid0.N, win0_0.index t 0 = t.val ∧ win0_0.index t 1 = 0 ∧ win0_0.index t 2 = 0 := by decide +kernel
/-- Which block of its array the window is on at each point. -/
theorem idx_1 : ∀ t : Fin grid0.N, win0_1.index t 0 = t.val ∧ win0_1.index t 1 = 0 ∧ win0_1.index t 2 = 0 := by decide +kernel
/-- Which block of its array the window is on at each point. -/
theorem idx_2 : ∀ t : Fin grid0.N, win0_2.index t 0 = t.val ∧ win0_2.index t 1 = 0 ∧ win0_2.index t 2 = 0 := by decide +kernel
/-- Which block of its array the window is on at each point. -/
theorem idx_3 : ∀ t : Fin grid0.N, win0_3.index t 0 = t.val ∧ win0_3.index t 1 = 0 ∧ win0_3.index t 2 = 0 := by decide +kernel
/-- Which block of its array the window is on at each point. -/
theorem idx_4 : ∀ t : Fin grid0.N, win0_4.index t 0 = 0 ∧ win0_4.index t 1 = 0 := by decide +kernel
/-- Which block of its array the window is on at each point. -/
theorem idx_5 : ∀ t : Fin grid0.N, win0_5.index t 0 = 0 ∧ win0_5.index t 1 = 0 := by decide +kernel
/-- Which block of its array the window is on at each point. -/
theorem idx_6 : ∀ t : Fin grid0.N, win0_6.index t 0 = t.val ∧ win0_6.index t 1 = 0 ∧ win0_6.index t 2 = 0 := by decide +kernel
/-- Which block of its array the window is on at each point. -/
theorem idx_7 : ∀ t : Fin grid0.N, win0_7.index t 0 = 0 ∧ win0_7.index t 1 = 0 := by decide +kernel
/-- Which block of its array the window is on at each point. -/
theorem idx_8 : ∀ t : Fin grid0.N, win0_8.index t 0 = 0 ∧ win0_8.index t 1 = 0 := by decide +kernel

/-- The query points' block. -/
def b0 (t : Fin cfg0.N) : S1x4096x3.Idx → EReal := iblk0 (F := Ideal) V c 0 t
/-- The block at an index. -/
theorem b0_apply (t : Fin cfg0.N) (i : Fin 4096) (j : Fin 3) : b0 V c t (ix3 0 i j) = V c main_arg0 (ix3 (tb t) i j) := by
  unfold b0 iblk0
  rw [View.read_apply]
  refine congrArg (V c main_arg0) (funext fun d => Fin.ext ?_)
  match d with
  | ⟨0, _⟩ => show win0_0.index t 0 * 1 + 1 * 0 = t.val; rw [(idx_0 t).1]; omega
  | ⟨1, _⟩ => show win0_0.index t 1 * 4096 + 1 * i.val = i.val; rw [(idx_0 t).2.1]; omega
  | ⟨2, _⟩ => show win0_0.index t 2 * 3 + 1 * j.val = j.val; rw [(idx_0 t).2.2]; omega

/-- The known points' block. -/
def b1 (t : Fin cfg0.N) : S1x3x1024.Idx → EReal := iblk0 (F := Ideal) V c 1 t
/-- The block at an index. -/
theorem b1_apply (t : Fin cfg0.N) (i : Fin 3) (j : Fin 1024) : b1 V c t (ix3 0 i j) = V c main_v0 (ix3 (tb t) i j) := by
  unfold b1 iblk0
  rw [View.read_apply]
  refine congrArg (V c main_v0) (funext fun d => Fin.ext ?_)
  match d with
  | ⟨0, _⟩ => show win0_1.index t 0 * 1 + 1 * 0 = t.val; rw [(idx_1 t).1]; omega
  | ⟨1, _⟩ => show win0_1.index t 1 * 3 + 1 * i.val = i.val; rw [(idx_1 t).2.1]; omega
  | ⟨2, _⟩ => show win0_1.index t 2 * 1024 + 1 * j.val = j.val; rw [(idx_1 t).2.2]; omega

/-- The query points' features. -/
def b2 (t : Fin cfg0.N) : S1x256x4096.Idx → EReal := iblk0 (F := Ideal) V c 2 t
/-- The block at an index. -/
theorem b2_apply (t : Fin cfg0.N) (i : Fin 256) (j : Fin 4096) : b2 V c t (ix3 0 i j) = V c main_arg2 (ix3 (tb t) i j) := by
  unfold b2 iblk0
  rw [View.read_apply]
  refine congrArg (V c main_arg2) (funext fun d => Fin.ext ?_)
  match d with
  | ⟨0, _⟩ => show win0_2.index t 0 * 1 + 1 * 0 = t.val; rw [(idx_2 t).1]; omega
  | ⟨1, _⟩ => show win0_2.index t 1 * 256 + 1 * i.val = i.val; rw [(idx_2 t).2.1]; omega
  | ⟨2, _⟩ => show win0_2.index t 2 * 4096 + 1 * j.val = j.val; rw [(idx_2 t).2.2]; omega

/-- The known points' features. -/
def b3 (t : Fin cfg0.N) : S1x256x1024.Idx → EReal := iblk0 (F := Ideal) V c 3 t
/-- The block at an index. -/
theorem b3_apply (t : Fin cfg0.N) (i : Fin 256) (j : Fin 1024) : b3 V c t (ix3 0 i j) = V c main_arg3 (ix3 (tb t) i j) := by
  unfold b3 iblk0
  rw [View.read_apply]
  refine congrArg (V c main_arg3) (funext fun d => Fin.ext ?_)
  match d with
  | ⟨0, _⟩ => show win0_3.index t 0 * 1 + 1 * 0 = t.val; rw [(idx_3 t).1]; omega
  | ⟨1, _⟩ => show win0_3.index t 1 * 256 + 1 * i.val = i.val; rw [(idx_3 t).2.1]; omega
  | ⟨2, _⟩ => show win0_3.index t 2 * 1024 + 1 * j.val = j.val; rw [(idx_3 t).2.2]; omega

/-- The first layer's matrix. -/
def b4 (t : Fin cfg0.N) : S256x512.Idx → EReal := iblk0 (F := Ideal) V c 4 t
/-- The block at an index. -/
theorem b4_apply (t : Fin cfg0.N) (i : Fin 256) (j : Fin 512) : b4 V c t (ix2 i j) = V c main_arg4 (ix2 i j) := by
  unfold b4 iblk0
  rw [View.read_apply]
  refine congrArg (V c main_arg4) (funext fun d => Fin.ext ?_)
  match d with
  | ⟨0, _⟩ => show win0_4.index t 0 * 256 + 1 * i.val = i.val; rw [(idx_4 t).1]; omega
  | ⟨1, _⟩ => show win0_4.index t 1 * 512 + 1 * j.val = j.val; rw [(idx_4 t).2]; omega

/-- The first layer's bias, a column. -/
def b5 (t : Fin cfg0.N) : S256x1.Idx → EReal := iblk0 (F := Ideal) V c 5 t
/-- The block at an index. -/
theorem b5_apply (t : Fin cfg0.N) (i : Fin 256) (j : Fin 1) : b5 V c t (ix2 i j) = V c main_v1 (ix2 i j) := by
  unfold b5 iblk0
  rw [View.read_apply]
  refine congrArg (V c main_v1) (funext fun d => Fin.ext ?_)
  match d with
  | ⟨0, _⟩ => show win0_5.index t 0 * 256 + 1 * i.val = i.val; rw [(idx_5 t).1]; omega
  | ⟨1, _⟩ => show win0_5.index t 1 * 1 + 1 * j.val = j.val; rw [(idx_5 t).2]; omega

/-- The left half of the first layer's matrix, loaded. -/
theorem ldL_apply (x : S256x512.Idx → EReal) (o k : Fin 256) :
    View.ld (Val := Elt Ideal) (e' := .f32) x rL (ix2 o k) = x (ix2 o (k.castAdd 256)) := by
  refine congrArg x (funext fun d => Fin.ext ?_)
  match d with
  | ⟨0, _⟩ => show 0 + 1 * o.val = o.val; omega
  | ⟨1, _⟩ => show 0 + 1 * k.val = k.val; omega

/-- The right half of the first layer's matrix, loaded. -/
theorem ldR_apply (x : S256x512.Idx → EReal) (o k : Fin 256) :
    View.ld (Val := Elt Ideal) (e' := .f32) x rR (ix2 o k) = x (ix2 o (k.natAdd 256)) := by
  refine congrArg x (funext fun d => Fin.ext ?_)
  match d with
  | ⟨0, _⟩ => show 0 + 1 * o.val = o.val; omega
  | ⟨1, _⟩ => show 256 + 1 * k.val = 256 + k.val; omega

/-- The first layer before its normalisation, from the arrays the function reads. -/
def feat (b : Fin 16) (o : Fin 256) (i : Fin 4096) : EReal :=
  layer2 (fun o k => V c main_arg4 (ix2 o k)) (fun o => V c main_v1 (ix2 o 0))
    (kinterp (d2 (fun b i a => V c main_arg0 (ix3 b i a)) (fun b k a => V c main_v0 (ix3 b a k))) (fun b k j => V c main_arg3 (ix3 b k j)))
    (fun b k i => V c main_arg2 (ix3 b k i)) b o i

/-- The first layer of one grid point's blocks. -/
abbrev rowAt (t : Fin cfg0.N) : Fin 256 → Fin 4096 → EReal :=
  row0 (b0 V c t) (b1 V c t) (b3 V c t) (View.ld (Val := Elt Ideal) (e' := .f32) (b4 V c t) rL) (View.ld (Val := Elt Ideal) (e' := .f32) (b4 V c t) rR) (b2 V c t) (b5 V c t)

/-- The point's block of the layer before its normalisation. -/
theorem rowAt_eq (t : Fin cfg0.N) (o : Fin 256) (i : Fin 4096) : rowAt V c t o i = feat V c (tb t) o i := by
  have hd : ∀ i, bd2 (b0 V c t) (b1 V c t) i = d2 (fun b i a => V c main_arg0 (ix3 b i a)) (fun b k a => V c main_v0 (ix3 b a k)) (tb t) i := fun i =>
    funext fun k => Finset.sum_congr rfl fun a _ => by rw [b0_apply, b1_apply]
  unfold rowAt row0 feat layer2 kinterp
  refine congrArg₂ (· + ·) (congrArg₂ (· + ·) (Finset.sum_congr rfl fun k _ => ?_) (Finset.sum_congr rfl fun k _ => ?_)) ?_
  · rw [ldL_apply, b4_apply]
    refine congrArg₂ (· * ·) rfl (Finset.sum_congr rfl fun j _ => ?_)
    rw [b3_apply, hd]
  · rw [ldR_apply, b4_apply, b2_apply]
  · rw [b5_apply]

/-- The three output blocks after a first point. -/
theorem outs_A (t : Fin cfg0.N) (h : t.val % 16 = 0) (o : Fin 256) :
    (∀ i, (outsAt0 (F := Ideal) V c t.val t.isLt).1 (ix3 0 o i) = feat V c (tb t) o i)
    ∧ (outsAt0 (F := Ideal) V c t.val t.isLt).2.1 (ix2 0 o) = 0 + ∑ i, feat V c (tb t) o i
    ∧ (outsAt0 (F := Ideal) V c t.val t.isLt).2.2 (ix2 0 o) = 0 + ∑ i, feat V c (tb t) o i * feat V c (tb t) o i := by
  rw [outsAt0_A V c t h, out_A_6, out_A_7, out_A_8]
  dsimp only
  refine ⟨fun i => ?_, ?_, ?_⟩
  · exact (pay11_apply (b0 V c t) (b1 V c t) (b3 V c t) _ _ (b2 V c t) (b5 V c t) o i).trans (rowAt_eq V c t o i)
  · refine (sum0_apply (b0 V c t) (b1 V c t) (b3 V c t) _ _ (b2 V c t) (b5 V c t) _ o).trans ?_
    exact congrArg₂ (· + ·) (zero12 o) (Finset.sum_congr rfl fun i _ => rowAt_eq V c t o i)
  · refine (sumsq0_apply (b0 V c t) (b1 V c t) (b3 V c t) _ _ (b2 V c t) (b5 V c t) _ o).trans ?_
    exact congrArg₂ (· + ·) (zero13 o) (Finset.sum_congr rfl fun i _ => congrArg₂ (· * ·) (rowAt_eq V c t o i) (rowAt_eq V c t o i))

/-- The three output blocks after a later point, from what the point before left. -/
theorem outs_B (t : Fin cfg0.N) (h : ¬t.val % 16 = 0) (o : Fin 256) :
    (∀ i, (outsAt0 (F := Ideal) V c t.val t.isLt).1 (ix3 0 o i) = feat V c (tb t) o i)
    ∧ (outsAt0 (F := Ideal) V c t.val t.isLt).2.1 (ix2 0 o)
        = (outsAt0 (F := Ideal) V c (t.val - 1) (Nat.lt_of_le_of_lt (Nat.sub_le _ _) t.isLt)).2.1 (ix2 0 o) + ∑ i, feat V c (tb t) o i
    ∧ (outsAt0 (F := Ideal) V c t.val t.isLt).2.2 (ix2 0 o)
        = (outsAt0 (F := Ideal) V c (t.val - 1) (Nat.lt_of_le_of_lt (Nat.sub_le _ _) t.isLt)).2.2 (ix2 0 o) + ∑ i, feat V c (tb t) o i * feat V c (tb t) o i := by
  rw [outsAt0_B V c t h, out_B_6, out_B_7, out_B_8]
  dsimp only
  refine ⟨fun i => ?_, ?_, ?_⟩
  · exact (pay11_apply (b0 V c t) (b1 V c t) (b3 V c t) _ _ (b2 V c t) (b5 V c t) o i).trans (rowAt_eq V c t o i)
  · refine (sum0_apply (b0 V c t) (b1 V c t) (b3 V c t) _ _ (b2 V c t) (b5 V c t) _ o).trans ?_
    exact congrArg₂ (· + ·) rfl (Finset.sum_congr rfl fun i _ => rowAt_eq V c t o i)
  · refine (sumsq0_apply (b0 V c t) (b1 V c t) (b3 V c t) _ _ (b2 V c t) (b5 V c t) _ o).trans ?_
    exact congrArg₂ (· + ·) rfl (Finset.sum_congr rfl fun i _ => congrArg₂ (· * ·) (rowAt_eq V c t o i) (rowAt_eq V c t o i))

/-- A batch's term of a channel total, `0` past the last batch. -/
def term (f : Feat) (o : Fin 256) (n : ℕ) : EReal := if h : n < 16 then ∑ i, f ⟨n, h⟩ o i else 0

/-- A point's share of a channel's total. -/
theorem term_eq (f : Feat) (o : Fin 256) (t : Fin cfg0.N) : term f o t.val = ∑ i, f (tb t) o i := dif_pos (tb t).isLt

/-- The shares of all points add up to the channel's total. -/
theorem sum_term (f : Feat) (o : Fin 256) : ∑ n ∈ Finset.range 16, term f o n = chanSum f o := by
  rw [Finset.sum_range]
  exact Finset.sum_congr rfl fun b _ => dif_pos b.isLt

/-- The features' squares. -/
abbrev sq : Feat := fun b o i => feat V c b o i * feat V c b o i

/-- The running totals after each point. -/
theorem totals (o : Fin 256) : ∀ (n : ℕ) (h : n < cfg0.N),
    (outsAt0 (F := Ideal) V c n h).2.1 (ix2 0 o) = ∑ k ∈ Finset.range (n + 1), term (feat V c) o k
    ∧ (outsAt0 (F := Ideal) V c n h).2.2 (ix2 0 o) = ∑ k ∈ Finset.range (n + 1), term (sq V c) o k
  | 0, h => by
    have hA := outs_A V c ⟨0, h⟩ (Nat.zero_mod _) o
    rw [Finset.sum_range_one, Finset.sum_range_one]
    refine ⟨hA.2.1.trans ?_, hA.2.2.trans ?_⟩
    · rw [zero_add]; exact (term_eq (feat V c) o ⟨0, h⟩).symm
    · rw [zero_add]; exact (term_eq (sq V c) o ⟨0, h⟩).symm
  | n + 1, h => by
    have hN : cfg0.N = 16 := N_0
    have hn : n + 1 < 16 := by omega
    have hB := outs_B V c ⟨n + 1, h⟩ (by dsimp only; omega) o
    have ih := totals o n (Nat.lt_of_succ_lt h)
    rw [Finset.sum_range_succ _ (n + 1), Finset.sum_range_succ _ (n + 1), ← ih.1, ← ih.2]
    refine ⟨hB.2.1.trans ?_, hB.2.2.trans ?_⟩
    · exact congrArg₂ (· + ·) rfl (term_eq (feat V c) o ⟨n + 1, h⟩).symm
    · exact congrArg₂ (· + ·) rfl (term_eq (sq V c) o ⟨n + 1, h⟩).symm

/-- The block left at every point. -/
theorem block (t : Fin cfg0.N) (o : Fin 256) (i : Fin 4096) :
    (outsAt0 (F := Ideal) V c t.val t.isLt).1 (ix3 0 o i) = feat V c (tb t) o i := by
  by_cases h : t.val % 16 = 0
  · exact (outs_A V c t h o).1 i
  · exact (outs_B V c t h o).1 i

/-- The features as contents of their array. -/
def featArr : Buf (Elt Ideal) ((c : Thread nD τ).loc main_v2_0) := fun (j : S16x256x4096.Idx) => feat V c (j 0) (j 1) (j 2)
/-- The channel totals as contents of their array. -/
def sumArr : Buf (Elt Ideal) ((c : Thread nD τ).loc main_v2_1) := fun (j : S1x256.Idx) => chanSum (feat V c) (j 1)
/-- The channel totals of the squares as contents of their array. -/
def sqArr : Buf (Elt Ideal) ((c : Thread nD τ).loc main_v2_2) := fun (j : S1x256.Idx) => chanSum (sq V c) (j 1)

/-- What a point writes back is its block of the array claimed. -/
theorem flushed_6 (t : Fin cfg0.N) :
    (dat0 (F := Ideal) V c).flushed 6 t = ((cfg0.win 6).blk t).view.read (Elt Ideal) (featArr V c) := by
  show (cfg0.win 6).cut (grid0.coords t) ((dat0 (F := Ideal) V c).after 6 t) = _
  rw [after0_6]
  funext j
  rw [View.read_apply]
  have e : (outsAt0 (F := Ideal) V c t.val t.isLt).1 (ix3 0 (j 1) (j 2)) = feat V c (tb t) (j 1) (j 2) := block V c t (j 1) (j 2)
  refine Eq.trans ?_ (e.trans ?_)
  · refine congrArg (outsAt0 (F := Ideal) V c t.val t.isLt).1 (funext fun d => Fin.ext ?_)
    match d with
    | ⟨0, _⟩ => have h : (j 0).val < 1 := (j 0).isLt; show (j 0).val = 0; omega
    | ⟨1, _⟩ => rfl
    | ⟨2, _⟩ => rfl
  · have h : (j 0).val < 1 := (j 0).isLt
    show _ = feat V c _ _ _
    refine congr (congrArg₂ (feat V c) (Fin.ext ?_) (Fin.ext ?_)) (Fin.ext ?_)
    · show t.val = win0_6.index t 0 * 1 + 1 * (j 0).val; rw [(idx_6 t).1]; omega
    · show (j 1).val = win0_6.index t 1 * 256 + 1 * (j 1).val; rw [(idx_6 t).2.1]; omega
    · show (j 2).val = win0_6.index t 2 * 4096 + 1 * (j 2).val; rw [(idx_6 t).2.2]; omega

/-- The size of the window at each point. -/
theorem size_6 : ∀ t : Fin grid0.N, win0_6.xsize (grid0.coords t) 0 = 1 ∧ win0_6.xsize (grid0.coords t) 1 = 256 ∧ win0_6.xsize (grid0.coords t) 2 = 4096 := by decide +kernel

/-- Every index is written back by some point. -/
theorem cover_6 (i : S16x256x4096.Idx) :
    ∃ t : Fin cfg0.N, (cfg0.win 6).flush t = true ∧ i ∈ ((cfg0.win 6).blk t).view.set := by
  have hN : cfg0.N = 16 := N_0
  have h0 : (i 0 : Nat) < 16 := (i 0).isLt
  have h1 : (i 1 : Nat) < 256 := (i 1).isLt
  have h2 : (i 2 : Nat) < 4096 := (i 2).isLt
  have ht : (i 0 : Nat) < cfg0.N := by omega
  refine ⟨⟨(i 0 : Nat), ht⟩, flush0_6 _, ?_⟩
  generalize hT : (⟨(i 0 : Nat), ht⟩ : Fin cfg0.N) = t
  have hv : t.val = (i 0 : Nat) := by rw [← hT]
  show i ∈ ((View.whole main_v2_0).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + win0_6.xsize (grid0.coords t) 0
              rw [(idx_6 t).1, (size_6 t).1]; omega
  | ⟨1, _⟩ => show win0_6.index t 1 * 256 ≤ (i 1 : Nat) ∧ (i 1 : Nat) < win0_6.index t 1 * 256 + win0_6.xsize (grid0.coords t) 1
              rw [(idx_6 t).2.1, (size_6 t).2.1]; omega
  | ⟨2, _⟩ => show win0_6.index t 2 * 4096 ≤ (i 2 : Nat) ∧ (i 2 : Nat) < win0_6.index t 2 * 4096 + win0_6.xsize (grid0.coords t) 2
              rw [(idx_6 t).2.2, (size_6 t).2.2]; omega

/-- The features' array after the grid. -/
theorem final_6 : (dat0 (F := Ideal) V c).arrAt 6 cfg0.N = featArr V c :=
  (dat0 (F := Ideal) V c).arrAt_eq_of_cover 6 (featArr V c) (fun t _ => flushed_6 V c t) cover_6

/-- What a point writes back is its block of the array claimed. -/
theorem flushed_7 (t : Fin cfg0.N) (hf : (cfg0.win 7).flush t = true) :
    (dat0 (F := Ideal) V c).flushed 7 t = ((cfg0.win 7).blk t).view.read (Elt Ideal) (sumArr V c) := by
  have hN : cfg0.N = 16 := N_0
  have h15 : t.val = 15 := by have := (flush0_7 t).mp hf; have := t.isLt; omega
  show (cfg0.win 7).cut (grid0.coords t) ((dat0 (F := Ideal) V c).after 7 t) = _
  rw [after0_7]
  funext j
  rw [View.read_apply]
  have e : (outsAt0 (F := Ideal) V c t.val t.isLt).2.1 (ix2 0 (j 1)) = chanSum (feat V c) (j 1) := by
    refine ((totals V c (j 1) t.val t.isLt).1).trans ?_
    rw [h15]
    exact sum_term (feat V c) (j 1)
  refine Eq.trans ?_ (e.trans ?_)
  · refine congrArg (outsAt0 (F := Ideal) V c t.val t.isLt).2.1 (funext fun d => Fin.ext ?_)
    match d with
    | ⟨0, _⟩ => have h : (j 0).val < 1 := (j 0).isLt; show (j 0).val = 0; omega
    | ⟨1, _⟩ => rfl
  · show _ = chanSum (feat V c) _
    refine congrArg (chanSum (feat V c)) (Fin.ext ?_)
    show (j 1).val = win0_7.index t 1 * 256 + 1 * (j 1).val
    rw [(idx_7 t).2]; omega

/-- The size of the window at each point. -/
theorem size_7 : ∀ t : Fin grid0.N, win0_7.xsize (grid0.coords t) 0 = 1 ∧ win0_7.xsize (grid0.coords t) 1 = 256 := by decide +kernel

/-- Every index is written back by some point. -/
theorem cover_7 (i : S1x256.Idx) :
    ∃ t : Fin cfg0.N, (cfg0.win 7).flush t = true ∧ i ∈ ((cfg0.win 7).blk t).view.set := by
  have hN : cfg0.N = 16 := N_0
  have h0 : (i 0 : Nat) < 1 := (i 0).isLt
  have h1 : (i 1 : Nat) < 256 := (i 1).isLt
  have ht : 15 < cfg0.N := by omega
  refine ⟨⟨15, ht⟩, (flush0_7 _).mpr rfl, ?_⟩
  generalize (⟨15, ht⟩ : Fin cfg0.N) = t
  show i ∈ ((View.whole main_v2_1).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + win0_7.xsize (grid0.coords t) 0
              rw [(idx_7 t).1, (size_7 t).1]; omega
  | ⟨1, _⟩ => show win0_7.index t 1 * 256 ≤ (i 1 : Nat) ∧ (i 1 : Nat) < win0_7.index t 1 * 256 + win0_7.xsize (grid0.coords t) 1
              rw [(idx_7 t).2, (size_7 t).2]; omega

/-- The channel totals after the grid. -/
theorem final_7 : (dat0 (F := Ideal) V c).arrAt 7 cfg0.N = sumArr V c :=
  (dat0 (F := Ideal) V c).arrAt_eq_of_cover 7 (sumArr V c) (flushed_7 V c) cover_7

/-- What a point writes back is its block of the array claimed. -/
theorem flushed_8 (t : Fin cfg0.N) (hf : (cfg0.win 8).flush t = true) :
    (dat0 (F := Ideal) V c).flushed 8 t = ((cfg0.win 8).blk t).view.read (Elt Ideal) (sqArr V c) := by
  have hN : cfg0.N = 16 := N_0
  have h15 : t.val = 15 := by have := (flush0_8 t).mp hf; have := t.isLt; omega
  show (cfg0.win 8).cut (grid0.coords t) ((dat0 (F := Ideal) V c).after 8 t) = _
  rw [after0_8]
  funext j
  rw [View.read_apply]
  have e : (outsAt0 (F := Ideal) V c t.val t.isLt).2.2 (ix2 0 (j 1)) = chanSum (sq V c) (j 1) := by
    refine ((totals V c (j 1) t.val t.isLt).2).trans ?_
    rw [h15]
    exact sum_term (sq V c) (j 1)
  refine Eq.trans ?_ (e.trans ?_)
  · refine congrArg (outsAt0 (F := Ideal) V c t.val t.isLt).2.2 (funext fun d => Fin.ext ?_)
    match d with
    | ⟨0, _⟩ => have h : (j 0).val < 1 := (j 0).isLt; show (j 0).val = 0; omega
    | ⟨1, _⟩ => rfl
  · show _ = chanSum (sq V c) _
    refine congrArg (chanSum (sq V c)) (Fin.ext ?_)
    show (j 1).val = win0_8.index t 1 * 256 + 1 * (j 1).val
    rw [(idx_8 t).2]; omega

/-- The size of the window at each point. -/
theorem size_8 : ∀ t : Fin grid0.N, win0_8.xsize (grid0.coords t) 0 = 1 ∧ win0_8.xsize (grid0.coords t) 1 = 256 := by decide +kernel

/-- Every index is written back by some point. -/
theorem cover_8 (i : S1x256.Idx) :
    ∃ t : Fin cfg0.N, (cfg0.win 8).flush t = true ∧ i ∈ ((cfg0.win 8).blk t).view.set := by
  have hN : cfg0.N = 16 := N_0
  have h0 : (i 0 : Nat) < 1 := (i 0).isLt
  have h1 : (i 1 : Nat) < 256 := (i 1).isLt
  have ht : 15 < cfg0.N := by omega
  refine ⟨⟨15, ht⟩, (flush0_8 _).mpr rfl, ?_⟩
  generalize (⟨15, ht⟩ : Fin cfg0.N) = t
  show i ∈ ((View.whole main_v2_2).slice (win0_8.rect t)).set
  rw [View.set_slice_whole, Rect.mem_set_unit]
  intro a
  match a with
  | ⟨0, _⟩ => show win0_8.index t 0 * 1 ≤ (i 0 : Nat) ∧ (i 0 : Nat) < win0_8.index t 0 * 1 + win0_8.xsize (grid0.coords t) 0
              rw [(idx_8 t).1, (size_8 t).1]; omega
  | ⟨1, _⟩ => show win0_8.index t 1 * 256 ≤ (i 1 : Nat) ∧ (i 1 : Nat) < win0_8.index t 1 * 256 + win0_8.xsize (grid0.coords t) 1
              rw [(idx_8 t).2, (size_8 t).2]; omega

/-- The squares' channel totals after the grid. -/
theorem final_8 : (dat0 (F := Ideal) V c).arrAt 8 cfg0.N = sqArr V c :=
  (dat0 (F := Ideal) V c).arrAt_eq_of_cover 8 (sqArr V c) (flushed_8 V c) cover_8

end Cert.KernelIdeal.Region0
-- ==== Proof.Region1Out.lean ====
/- What the second kernel function leaves in its output blocks at one grid point, as its payloads of the input blocks. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Region1

open Cert.KernelIdeal Cert.KernelIdeal.Gen
open Idealize.ShloMosaic Idealize.ShloMosaic.TcCoe Idealize.ShloMosaic.Tactic Idealize.SL.Sem

variable {F : FTy → Type} [FloatOps F]

/-- The offset written as a list is zero on every axis. -/
theorem hz3 : (![0, 0, 0] : Fin 3 → Nat) = fun _ => 0 := funext fun a => by fin_cases a <;> rfl
/-- The offset written as a list is zero on every axis. -/
theorem hz2 : (![0, 0] : Fin 2 → Nat) = fun _ => 0 := funext fun a => by fin_cases a <;> rfl

/-- At a first point: the block of the second layer. -/
theorem out_A_5 (c : Dev nD) (i : grid1.Coords) (arg2 : Memref sig .tc .vmem S1x256x4096 .bf16) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256x4096 .bf16) (harg7 : arg7.IsWhole) (arg8 : Memref sig .tc .vmem S1x256 .f32) (harg8 : arg8.IsWhole) (arg9 : Memref sig .tc .vmem S1x256 .f32) (harg9 : arg9.IsWhole) (hc : cond1_0 i)
    (x0 : Vec F S1x256x4096 .bf16) (x1 : Vec F S256x256 .f32) (x2 : Vec F S256x1 .f32) (x3 : Vec F S256x1 .f32) (x4 : Vec F S256x1 .f32)  :
    out1_A_5 c i arg2 harg2 arg3 harg3 arg4 harg4 arg5 harg5 arg6 harg6 arg7 harg7 arg8 harg8 arg9 harg9 hc x0 x1 x2 x3 x4
      = k1_pay3 x0 x3 x4 x1 x2 := by
  unfold out1_A_5
  rw [View.read_writes_eq_canon _ _ _ (cover1_A_5 c i arg2 harg2 arg3 harg3 arg4 harg4 arg5 harg5 arg6 harg6 arg7 harg7 arg8 harg8 arg9 harg9 hc x0 x1 x2 x3 x4)]
  unfold kernelRun1_A
  dsimp only
  sl_unfold_words
  rw [View.canon_unit_zero (S := S1x256x4096) hz3]
  simp only [View.readAt_eq_ld, harg2.read_unread, harg3.read_unread, harg4.read_unread, harg5.read_unread, harg6.read_unread, View.ld_unit_zero (S := S1x256x4096) hz3, View.ld_unit_zero (S := S256x256) hz2, View.ld_unit_zero (S := S256x1) hz2, View.ld_unit_zero (S := S1x256) hz2]

/-- At a first point: the running sum. -/
theorem out_A_6 (c : Dev nD) (i : grid1.Coords) (arg2 : Memref sig .tc .vmem S1x256x4096 .bf16) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256x4096 .bf16) (harg7 : arg7.IsWhole) (arg8 : Memref sig .tc .vmem S1x256 .f32) (harg8 : arg8.IsWhole) (arg9 : Memref sig .tc .vmem S1x256 .f32) (harg9 : arg9.IsWhole) (hc : cond1_0 i)
    (x0 : Vec F S1x256x4096 .bf16) (x1 : Vec F S256x256 .f32) (x2 : Vec F S256x1 .f32) (x3 : Vec F S256x1 .f32) (x4 : Vec F S256x1 .f32)  :
    out1_A_6 c i arg2 harg2 arg3 harg3 arg4 harg4 arg5 harg5 arg6 harg6 arg7 harg7 arg8 harg8 arg9 harg9 hc x0 x1 x2 x3 x4
      = k1_pay6 x0 x3 x4 x1 x2 k1_pay4 := by
  unfold out1_A_6
  rw [View.read_writes_eq_canon _ _ _ (cover1_A_6 c i arg2 harg2 arg3 harg3 arg4 harg4 arg5 harg5 arg6 harg6 arg7 harg7 arg8 harg8 arg9 harg9 hc x0 x1 x2 x3 x4)]
  unfold kernelRun1_A
  dsimp only
  sl_unfold_words
  rw [View.canon_cons_unit_zero (S := S1x256) hz2, View.readCov_unit_zero (S := S1x256) _ hz2]
  simp only [View.readAt_eq_ld, harg2.read_unread, harg3.read_unread, harg4.read_unread, harg5.read_unread, harg6.read_unread, View.ld_unit_zero (S := S1x256x4096) hz3, View.ld_unit_zero (S := S256x256) hz2, View.ld_unit_zero (S := S256x1) hz2, View.ld_unit_zero (S := S1x256) hz2]

/-- At a first point: the running sum of squares. -/
theorem out_A_7 (c : Dev nD) (i : grid1.Coords) (arg2 : Memref sig .tc .vmem S1x256x4096 .bf16) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256x4096 .bf16) (harg7 : arg7.IsWhole) (arg8 : Memref sig .tc .vmem S1x256 .f32) (harg8 : arg8.IsWhole) (arg9 : Memref sig .tc .vmem S1x256 .f32) (harg9 : arg9.IsWhole) (hc : cond1_0 i)
    (x0 : Vec F S1x256x4096 .bf16) (x1 : Vec F S256x256 .f32) (x2 : Vec F S256x1 .f32) (x3 : Vec F S256x1 .f32) (x4 : Vec F S256x1 .f32)  :
    out1_A_7 c i arg2 harg2 arg3 harg3 arg4 harg4 arg5 harg5 arg6 harg6 arg7 harg7 arg8 harg8 arg9 harg9 hc x0 x1 x2 x3 x4
      = k1_pay1 (k1_pay2 x0 x3 x4 x1 x2) k1_pay5 := by
  unfold out1_A_7
  rw [View.read_writes_eq_canon _ _ _ (cover1_A_7 c i arg2 harg2 arg3 harg3 arg4 harg4 arg5 harg5 arg6 harg6 arg7 harg7 arg8 harg8 arg9 harg9 hc x0 x1 x2 x3 x4)]
  unfold kernelRun1_A
  dsimp only
  sl_unfold_words
  rw [View.canon_cons_unit_zero (S := S1x256) hz2, View.readCov_unit_zero (S := S1x256) _ hz2]
  simp only [View.readAt_eq_ld, harg2.read_unread, harg3.read_unread, harg4.read_unread, harg5.read_unread, harg6.read_unread, View.ld_unit_zero (S := S1x256x4096) hz3, View.ld_unit_zero (S := S256x256) hz2, View.ld_unit_zero (S := S256x1) hz2, View.ld_unit_zero (S := S1x256) hz2]

/-- At a later point: the block of the second layer. -/
theorem out_B_5 (c : Dev nD) (i : grid1.Coords) (arg2 : Memref sig .tc .vmem S1x256x4096 .bf16) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256x4096 .bf16) (harg7 : arg7.IsWhole) (arg8 : Memref sig .tc .vmem S1x256 .f32) (harg8 : arg8.IsWhole) (arg9 : Memref sig .tc .vmem S1x256 .f32) (harg9 : arg9.IsWhole) (hc : ¬cond1_0 i)
    (x0 : Vec F S1x256x4096 .bf16) (x1 : Vec F S256x256 .f32) (x2 : Vec F S256x1 .f32) (x3 : Vec F S256x1 .f32) (x4 : Vec F S256x1 .f32) (xo6 xo7 : Vec F S1x256 .f32) :
    out1_B_5 c i arg2 harg2 arg3 harg3 arg4 harg4 arg5 harg5 arg6 harg6 arg7 harg7 arg8 harg8 arg9 harg9 hc x0 x1 x2 x3 x4 xo6 xo7
      = k1_pay3 x0 x3 x4 x1 x2 := by
  unfold out1_B_5
  rw [View.read_writes_eq_canon _ _ _ (cover1_B_5 c i arg2 harg2 arg3 harg3 arg4 harg4 arg5 harg5 arg6 harg6 arg7 harg7 arg8 harg8 arg9 harg9 hc x0 x1 x2 x3 x4 xo6 xo7)]
  unfold kernelRun1_B
  dsimp only
  sl_unfold_words
  rw [View.canon_unit_zero (S := S1x256x4096) hz3]
  simp only [View.readAt_eq_ld, harg2.read_unread, harg3.read_unread, harg4.read_unread, harg5.read_unread, harg6.read_unread, harg8.read_unread, harg9.read_unread, View.ld_unit_zero (S := S1x256x4096) hz3, View.ld_unit_zero (S := S256x256) hz2, View.ld_unit_zero (S := S256x1) hz2, View.ld_unit_zero (S := S1x256) hz2]

/-- At a later point: the running sum. -/
theorem out_B_6 (c : Dev nD) (i : grid1.Coords) (arg2 : Memref sig .tc .vmem S1x256x4096 .bf16) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256x4096 .bf16) (harg7 : arg7.IsWhole) (arg8 : Memref sig .tc .vmem S1x256 .f32) (harg8 : arg8.IsWhole) (arg9 : Memref sig .tc .vmem S1x256 .f32) (harg9 : arg9.IsWhole) (hc : ¬cond1_0 i)
    (x0 : Vec F S1x256x4096 .bf16) (x1 : Vec F S256x256 .f32) (x2 : Vec F S256x1 .f32) (x3 : Vec F S256x1 .f32) (x4 : Vec F S256x1 .f32) (xo6 xo7 : Vec F S1x256 .f32) :
    out1_B_6 c i arg2 harg2 arg3 harg3 arg4 harg4 arg5 harg5 arg6 harg6 arg7 harg7 arg8 harg8 arg9 harg9 hc x0 x1 x2 x3 x4 xo6 xo7
      = k1_pay6 x0 x3 x4 x1 x2 xo6 := by
  unfold out1_B_6
  rw [View.read_writes_eq_canon _ _ _ (cover1_B_6 c i arg2 harg2 arg3 harg3 arg4 harg4 arg5 harg5 arg6 harg6 arg7 harg7 arg8 harg8 arg9 harg9 hc x0 x1 x2 x3 x4 xo6 xo7)]
  unfold kernelRun1_B
  dsimp only
  sl_unfold_words
  rw [View.canon_unit_zero (S := S1x256) hz2]
  simp only [View.readAt_eq_ld, harg2.read_unread, harg3.read_unread, harg4.read_unread, harg5.read_unread, harg6.read_unread, harg8.read_unread, harg9.read_unread, View.ld_unit_zero (S := S1x256x4096) hz3, View.ld_unit_zero (S := S256x256) hz2, View.ld_unit_zero (S := S256x1) hz2, View.ld_unit_zero (S := S1x256) hz2]

/-- At a later point: the running sum of squares. -/
theorem out_B_7 (c : Dev nD) (i : grid1.Coords) (arg2 : Memref sig .tc .vmem S1x256x4096 .bf16) (harg2 : arg2.IsWhole) (arg3 : Memref sig .tc .vmem S256x256 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S1x256x4096 .bf16) (harg7 : arg7.IsWhole) (arg8 : Memref sig .tc .vmem S1x256 .f32) (harg8 : arg8.IsWhole) (arg9 : Memref sig .tc .vmem S1x256 .f32) (harg9 : arg9.IsWhole) (hc : ¬cond1_0 i)
    (x0 : Vec F S1x256x4096 .bf16) (x1 : Vec F S256x256 .f32) (x2 : Vec F S256x1 .f32) (x3 : Vec F S256x1 .f32) (x4 : Vec F S256x1 .f32) (xo6 xo7 : Vec F S1x256 .f32) :
    out1_B_7 c i arg2 harg2 arg3 harg3 arg4 harg4 arg5 harg5 arg6 harg6 arg7 harg7 arg8 harg8 arg9 harg9 hc x0 x1 x2 x3 x4 xo6 xo7
      = k1_pay1 (k1_pay2 x0 x3 x4 x1 x2) xo7 := by
  unfold out1_B_7
  rw [View.read_writes_eq_canon _ _ _ (cover1_B_7 c i arg2 harg2 arg3 harg3 arg4 harg4 arg5 harg5 arg6 harg6 arg7 harg7 arg8 harg8 arg9 harg9 hc x0 x1 x2 x3 x4 xo6 xo7)]
  unfold kernelRun1_B
  dsimp only
  sl_unfold_words
  rw [View.canon_unit_zero (S := S1x256) hz2]
  simp only [View.readAt_eq_ld, harg2.read_unread, harg3.read_unread, harg4.read_unread, harg5.read_unread, harg6.read_unread, harg8.read_unread, harg9.read_unread, View.ld_unit_zero (S := S1x256x4096) hz3, View.ld_unit_zero (S := S256x256) hz2, View.ld_unit_zero (S := S256x1) hz2, View.ld_unit_zero (S := S1x256) hz2]

end Cert.KernelIdeal.Region1
-- ==== Proof.Region1.lean ====
/- The second kernel function over its grid: the arrays it leaves, index by index. -/
module

public import proofs.«01_k».proof.Proof.Payload
public import proofs.«01_k».proof.Proof.Region1Out
public import proofs.«01_k».proof.Proof.Region0

@[expose] public section

set_option maxRecDepth 16384

noncomputable section

namespace Cert.KernelIdeal.Region1

open Cert.KernelIdeal Cert.KernelIdeal.Gen Cert.KernelIdeal.Pay Cert.Value
open Cert.KernelIdeal.Region0 (term sum_term)
open Idealize.ShloMosaic Idealize.ShloMosaic.ValueIdx Idealize.ShloMosaic.TcCoe Idealize.SL.Sem

variable (V : (c : Dev nD) → (b : Ref sig .tc) → Buf (Elt Ideal) ((c : Thread nD τ).loc b)) (c : Dev nD)

/-- The batch a grid point works on. -/
abbrev tb (t : Fin cfg1.N) : Fin 16 := ⟨t.val, by have := t.isLt; have h : cfg1.N = 16 := N_1; omega⟩

/-- Which block of its array the window is on at each point. -/
theorem idx_0 : ∀ t : Fin grid1.N, win1_0.index t 0 = t.val ∧ win1_0.index t 1 = 0 ∧ win1_0.index t 2 = 0 := by decide +kernel
/-- Which block of its array the window is on at each point. -/
theorem idx_5 : ∀ t : Fin grid1.N, win1_5.index t 0 = t.val ∧ win1_5.index t 1 = 0 ∧ win1_5.index t 2 = 0 := by decide +kernel
/-- Which block of its array the window is on at each point. -/
theorem idx_1 : ∀ t : Fin grid1.N, win1_1.index t 0 = 0 ∧ win1_1.index t 1 = 0 := by decide +kernel
/-- Which block of its array the window is on at each point. -/
theorem idx_2 : ∀ t : Fin grid1.N, win1_2.index t 0 = 0 ∧ win1_2.index t 1 = 0 := by decide +kernel
/-- Which block of its array the window is on at each point. -/
theorem idx_3 : ∀ t : Fin grid1.N, win1_3.index t 0 = 0 ∧ win1_3.index t 1 = 0 := by decide +kernel
/-- Which block of its array the window is on at each point. -/
theorem idx_4 : ∀ t : Fin grid1.N, win1_4.index t 0 = 0 ∧ win1_4.index t 1 = 0 := by decide +kernel
/-- Which block of its array the window is on at each point. -/
theorem idx_6 : ∀ t : Fin grid1.N, win1_6.index t 0 = 0 ∧ win1_6.index t 1 = 0 := by decide +kernel
/-- Which block of its array the window is on at each point. -/
theorem idx_7 : ∀ t : Fin grid1.N, win1_7.index t 0 = 0 ∧ win1_7.index t 1 = 0 := by decide +kernel

/-- The first layer's block. -/
def b0 (t : Fin cfg1.N) : S1x256x4096.Idx → EReal := iblk1 (F := Ideal) V c 0 t
/-- The block at an index. -/
theorem b0_apply (t : Fin cfg1.N) (i : Fin 256) (j : Fin 4096) : b0 V c t (ix3 0 i j) = V c main_v2_0 (ix3 (tb t) i j) := by
  unfold b0 iblk1
  rw [View.read_apply]
  refine congrArg (V c main_v2_0) (funext fun d => Fin.ext ?_)
  match d with
  | ⟨0, _⟩ => show win1_0.index t 0 * 1 + 1 * 0 = t.val; rw [(idx_0 t).1]; omega
  | ⟨1, _⟩ => show win1_0.index t 1 * 256 + 1 * i.val = i.val; rw [(idx_0 t).2.1]; omega
  | ⟨2, _⟩ => show win1_0.index t 2 * 4096 + 1 * j.val = j.val; rw [(idx_0 t).2.2]; omega

/-- The second layer's matrix. -/
def b1 (t : Fin cfg1.N) : S256x256.Idx → EReal := iblk1 (F := Ideal) V c 1 t
/-- The block at an index. -/
theorem b1_apply (t : Fin cfg1.N) (i : Fin 256) (j : Fin 256) : b1 V c t (ix2 i j) = V c main_arg8 (ix2 i j) := by
  unfold b1 iblk1
  rw [View.read_apply]
  refine congrArg (V c main_arg8) (funext fun d => Fin.ext ?_)
  match d with
  | ⟨0, _⟩ => show win1_1.index t 0 * 256 + 1 * i.val = i.val; rw [(idx_1 t).1]; omega
  | ⟨1, _⟩ => show win1_1.index t 1 * 256 + 1 * j.val = j.val; rw [(idx_1 t).2]; omega

/-- Its bias, a column. -/
def b2 (t : Fin cfg1.N) : S256x1.Idx → EReal := iblk1 (F := Ideal) V c 2 t
/-- The block at an index. -/
theorem b2_apply (t : Fin cfg1.N) (i : Fin 256) (j : Fin 1) : b2 V c t (ix2 i j) = V c main_v17 (ix2 i j) := by
  unfold b2 iblk1
  rw [View.read_apply]
  refine congrArg (V c main_v17) (funext fun d => Fin.ext ?_)
  match d with
  | ⟨0, _⟩ => show win1_2.index t 0 * 256 + 1 * i.val = i.val; rw [(idx_2 t).1]; omega
  | ⟨1, _⟩ => show win1_2.index t 1 * 1 + 1 * j.val = j.val; rw [(idx_2 t).2]; omega

/-- The first normalisation's scales. -/
def b3 (t : Fin cfg1.N) : S256x1.Idx → EReal := iblk1 (F := Ideal) V c 3 t
/-- The block at an index. -/
theorem b3_apply (t : Fin cfg1.N) (i : Fin 256) (j : Fin 1) : b3 V c t (ix2 i j) = V c main_v18 (ix2 i j) := by
  unfold b3 iblk1
  rw [View.read_apply]
  refine congrArg (V c main_v18) (funext fun d => Fin.ext ?_)
  match d with
  | ⟨0, _⟩ => show win1_3.index t 0 * 256 + 1 * i.val = i.val; rw [(idx_3 t).1]; omega
  | ⟨1, _⟩ => show win1_3.index t 1 * 1 + 1 * j.val = j.val; rw [(idx_3 t).2]; omega

/-- The first normalisation's shifts. -/
def b4 (t : Fin cfg1.N) : S256x1.Idx → EReal := iblk1 (F := Ideal) V c 4 t
/-- The block at an index. -/
theorem b4_apply (t : Fin cfg1.N) (i : Fin 256) (j : Fin 1) : b4 V c t (ix2 i j) = V c main_v19 (ix2 i j) := by
  unfold b4 iblk1
  rw [View.read_apply]
  refine congrArg (V c main_v19) (funext fun d => Fin.ext ?_)
  match d with
  | ⟨0, _⟩ => show win1_4.index t 0 * 256 + 1 * i.val = i.val; rw [(idx_4 t).1]; omega
  | ⟨1, _⟩ => show win1_4.index t 1 * 1 + 1 * j.val = j.val; rw [(idx_4 t).2]; omega

/-- Scale, shift and cut at zero: a channel's scale and shift from two columns. -/
abbrev cut (y : S16x256x4096.Idx → EReal) (s d : S256x1.Idx → EReal) : Feat := fun b k i =>
  max (y (ix3 b k i) * s (ix2 k 0) + d (ix2 k 0)) 0

/-- The second layer before its normalisation, from the arrays the function reads. -/
def feat (b : Fin 16) (o : Fin 256) (i : Fin 4096) : EReal :=
  layer (fun o k => V c main_arg8 (ix2 o k)) (fun o => V c main_v17 (ix2 o 0))
    (cut (V c main_v2_0) (V c main_v18) (V c main_v19)) b o i

/-- The second layer of one grid point's blocks. -/
abbrev rowAt (t : Fin cfg1.N) : Fin 256 → Fin 4096 → EReal := row1 (b0 V c t) (b3 V c t) (b4 V c t) (b1 V c t) (b2 V c t)

/-- The point's block of the layer before its normalisation. -/
theorem rowAt_eq (t : Fin cfg1.N) (o : Fin 256) (i : Fin 4096) : rowAt V c t o i = feat V c (tb t) o i := by
  unfold rowAt row1 feat layer act
  refine congrArg₂ (· + ·) (Finset.sum_congr rfl fun k _ => ?_) ?_
  · rw [b1_apply, b0_apply, b3_apply, b4_apply]
  · rw [b2_apply]

/-- The three output blocks after a first point. -/
theorem outs_A (t : Fin cfg1.N) (h : t.val % 16 = 0) (o : Fin 256) :
    (∀ i, (outsAt1 (F := Ideal) V c t.val t.isLt).1 (ix3 0 o i) = feat V c (tb t) o i)
    ∧ (outsAt1 (F := Ideal) V c t.val t.isLt).2.1 (ix2 0 o) = 0 + ∑ i, feat V c (tb t) o i
    ∧ (outsAt1 (F := Ideal) V c t.val t.isLt).2.2 (ix2 0 o) = 0 + ∑ i, feat V c (tb t) o i * feat V c (tb t) o i := by
  rw [outsAt1_A V c t h, out_A_5, out_A_6, out_A_7]
  dsimp only
  refine ⟨fun i => ?_, ?_, ?_⟩
  · exact (k1pay3_apply (b0 V c t) (b3 V c t) (b4 V c t) (b1 V c t) (b2 V c t) o i).trans (rowAt_eq V c t o i)
  · refine (sum1_apply (b0 V c t) (b3 V c t) (b4 V c t) (b1 V c t) (b2 V c t) _ o).trans ?_
    exact congrArg₂ (· + ·) (zero4 o) (Finset.sum_congr rfl fun i _ => rowAt_eq V c t o i)
  · refine (sumsq1_apply (b0 V c t) (b3 V c t) (b4 V c t) (b1 V c t) (b2 V c t) _ o).trans ?_
    exact congrArg₂ (· + ·) (zero5 o) (Finset.sum_congr rfl fun i _ => congrArg₂ (· * ·) (rowAt_eq V c t o i) (rowAt_eq V c t o i))

/-- The three output blocks after a later point, from what the point before left. -/
theorem outs_B (t : Fin cfg1.N) (h : ¬t.val % 16 = 0) (o : Fin 256) :
    (∀ i, (outsAt1 (F := Ideal) V c t.val t.isLt).1 (ix3 0 o i) = feat V c (tb t) o i)
    ∧ (outsAt1 (F := Ideal) V c t.val t.isLt).2.1 (ix2 0 o)
        = (outsAt1 (F := Ideal) V c (t.val - 1) (Nat.lt_of_le_of_lt (Nat.sub_le _ _) t.isLt)).2.1 (ix2 0 o) + ∑ i, feat V c (tb t) o i
    ∧ (outsAt1 (F := Ideal) V c t.val t.isLt).2.2 (ix2 0 o)
        = (outsAt1 (F := Ideal) V c (t.val - 1) (Nat.lt_of_le_of_lt (Nat.sub_le _ _) t.isLt)).2.2 (ix2 0 o) + ∑ i, feat V c (tb t) o i * feat V c (tb t) o i := by
  rw [outsAt1_B V c t h, out_B_5, out_B_6, out_B_7]
  dsimp only
  refine ⟨fun i => ?_, ?_, ?_⟩
  · exact (k1pay3_apply (b0 V c t) (b3 V c t) (b4 V c t) (b1 V c t) (b2 V c t) o i).trans (rowAt_eq V c t o i)
  · refine (sum1_apply (b0 V c t) (b3 V c t) (b4 V c t) (b1 V c t) (b2 V c t) _ o).trans ?_
    exact congrArg₂ (· + ·) rfl (Finset.sum_congr rfl fun i _ => rowAt_eq V c t o i)
  · refine (sumsq1_apply (b0 V c t) (b3 V c t) (b4 V c t) (b1 V c t) (b2 V c t) _ o).trans ?_
    exact congrArg₂ (· + ·) rfl (Finset.sum_congr rfl fun i _ => congrArg₂ (· * ·) (rowAt_eq V c t o i) (rowAt_eq V c t o i))

/-- A point's share of a channel's total. -/
theorem term_eq (f : Feat) (o : Fin 256) (t : Fin cfg1.N) : term f o t.val = ∑ i, f (tb t) o i := dif_pos (tb t).isLt

/-- The features' squares. -/
abbrev sq : Feat := fun b o i => feat V c b o i * feat V c b o i

/-- The running totals after each point. -/
theorem totals (o : Fin 256) : ∀ (n : ℕ) (h : n < cfg1.N),
    (outsAt1 (F := Ideal) V c n h).2.1 (ix2 0 o) = ∑ k ∈ Finset.range (n + 1), term (feat V c) o k
    ∧ (outsAt1 (F := Ideal) V c n h).2.2 (ix2 0 o) = ∑ k ∈ Finset.range (n + 1), term (sq V c) o k
  | 0, h => by
    have hA := outs_A V c ⟨0, h⟩ (Nat.zero_mod _) o
    rw [Finset.sum_range_one, Finset.sum_range_one]
    refine ⟨hA.2.1.trans ?_, hA.2.2.trans ?_⟩
    · rw [zero_add]; exact (term_eq (feat V c) o ⟨0, h⟩).symm
    · rw [zero_add]; exact (term_eq (sq V c) o ⟨0, h⟩).symm
  | n + 1, h => by
    have hN : cfg1.N = 16 := N_1
    have hn : n + 1 < 16 := by omega
    have hB := outs_B V c ⟨n + 1, h⟩ (by dsimp only; omega) o
    have ih := totals o n (Nat.lt_of_succ_lt h)
    rw [Finset.sum_range_succ _ (n + 1), Finset.sum_range_succ _ (n + 1), ← ih.1, ← ih.2]
    refine ⟨hB.2.1.trans ?_, hB.2.2.trans ?_⟩
    · exact congrArg₂ (· + ·) rfl (term_eq (feat V c) o ⟨n + 1, h⟩).symm
    · exact congrArg₂ (· + ·) rfl (term_eq (sq V c) o ⟨n + 1, h⟩).symm

/-- The block left at every point. -/
theorem block (t : Fin cfg1.N) (o : Fin 256) (i : Fin 4096) :
    (outsAt1 (F := Ideal) V c t.val t.isLt).1 (ix3 0 o i) = feat V c (tb t) o i := by
  by_cases h : t.val % 16 = 0
  · exact (outs_A V c t h o).1 i
  · exact (outs_B V c t h o).1 i

/-- The features as contents of their array. -/
def featArr : Buf (Elt Ideal) ((c : Thread nD τ).loc main_v20_0) := fun (j : S16x256x4096.Idx) => feat V c (j 0) (j 1) (j 2)
/-- The channel totals as contents of their array. -/
def sumArr : Buf (Elt Ideal) ((c : Thread nD τ).loc main_v20_1) := fun (j : S1x256.Idx) => chanSum (feat V c) (j 1)
/-- The channel totals of the squares as contents of their array. -/
def sqArr : Buf (Elt Ideal) ((c : Thread nD τ).loc main_v20_2) := fun (j : S1x256.Idx) => chanSum (sq V c) (j 1)

/-- What a point writes back is its block of the array claimed. -/
theorem flushed_5 (t : Fin cfg1.N) :
    (dat1 (F := Ideal) V c).flushed 5 t = ((cfg1.win 5).blk t).view.read (Elt Ideal) (featArr V c) := by
  show (cfg1.win 5).cut (grid1.coords t) ((dat1 (F := Ideal) V c).after 5 t) = _
  rw [after1_5]
  funext j
  rw [View.read_apply]
  have e : (outsAt1 (F := Ideal) V c t.val t.isLt).1 (ix3 0 (j 1) (j 2)) = feat V c (tb t) (j 1) (j 2) := block V c t (j 1) (j 2)
  refine Eq.trans ?_ (e.trans ?_)
  · refine congrArg (outsAt1 (F := Ideal) V c t.val t.isLt).1 (funext fun d => Fin.ext ?_)
    match d with
    | ⟨0, _⟩ => have h : (j 0).val < 1 := (j 0).isLt; show (j 0).val = 0; omega
    | ⟨1, _⟩ => rfl
    | ⟨2, _⟩ => rfl
  · have h : (j 0).val < 1 := (j 0).isLt
    show _ = feat V c _ _ _
    refine congr (congrArg₂ (feat V c) (Fin.ext ?_) (Fin.ext ?_)) (Fin.ext ?_)
    · show t.val = win1_5.index t 0 * 1 + 1 * (j 0).val; rw [(idx_5 t).1]; omega
    · show (j 1).val = win1_5.index t 1 * 256 + 1 * (j 1).val; rw [(idx_5 t).2.1]; omega
    · show (j 2).val = win1_5.index t 2 * 4096 + 1 * (j 2).val; rw [(idx_5 t).2.2]; omega

/-- The size of the window at each point. -/
theorem size_5 : ∀ t : Fin grid1.N, win1_5.xsize (grid1.coords t) 0 = 1 ∧ win1_5.xsize (grid1.coords t) 1 = 256 ∧ win1_5.xsize (grid1.coords t) 2 = 4096 := by decide +kernel

/-- Every index is written back by some point. -/
theorem cover_5 (i : S16x256x4096.Idx) :
    ∃ t : Fin cfg1.N, (cfg1.win 5).flush t = true ∧ i ∈ ((cfg1.win 5).blk t).view.set := by
  have hN : cfg1.N = 16 := N_1
  have h0 : (i 0 : Nat) < 16 := (i 0).isLt
  have h1 : (i 1 : Nat) < 256 := (i 1).isLt
  have h2 : (i 2 : Nat) < 4096 := (i 2).isLt
  have ht : (i 0 : Nat) < cfg1.N := by omega
  refine ⟨⟨(i 0 : Nat), ht⟩, flush1_5 _, ?_⟩
  generalize hT : (⟨(i 0 : Nat), ht⟩ : Fin cfg1.N) = t
  have hv : t.val = (i 0 : Nat) := by rw [← hT]
  show i ∈ ((View.whole main_v20_0).slice (win1_5.rect t)).set
  rw [View.set_slice_whole, Rect.mem_set_unit]
  intro a
  match a with
  | ⟨0, _⟩ => show win1_5.index t 0 * 1 ≤ (i 0 : Nat) ∧ (i 0 : Nat) < win1_5.index t 0 * 1 + win1_5.xsize (grid1.coords t) 0
              rw [(idx_5 t).1, (size_5 t).1]; omega
  | ⟨1, _⟩ => show win1_5.index t 1 * 256 ≤ (i 1 : Nat) ∧ (i 1 : Nat) < win1_5.index t 1 * 256 + win1_5.xsize (grid1.coords t) 1
              rw [(idx_5 t).2.1, (size_5 t).2.1]; omega
  | ⟨2, _⟩ => show win1_5.index t 2 * 4096 ≤ (i 2 : Nat) ∧ (i 2 : Nat) < win1_5.index t 2 * 4096 + win1_5.xsize (grid1.coords t) 2
              rw [(idx_5 t).2.2, (size_5 t).2.2]; omega

/-- The features' array after the grid. -/
theorem final_5 : (dat1 (F := Ideal) V c).arrAt 5 cfg1.N = featArr V c :=
  (dat1 (F := Ideal) V c).arrAt_eq_of_cover 5 (featArr V c) (fun t _ => flushed_5 V c t) cover_5

/-- What a point writes back is its block of the array claimed. -/
theorem flushed_6 (t : Fin cfg1.N) (hf : (cfg1.win 6).flush t = true) :
    (dat1 (F := Ideal) V c).flushed 6 t = ((cfg1.win 6).blk t).view.read (Elt Ideal) (sumArr V c) := by
  have hN : cfg1.N = 16 := N_1
  have h15 : t.val = 15 := by have := (flush1_6 t).mp hf; have := t.isLt; omega
  show (cfg1.win 6).cut (grid1.coords t) ((dat1 (F := Ideal) V c).after 6 t) = _
  rw [after1_6]
  funext j
  rw [View.read_apply]
  have e : (outsAt1 (F := Ideal) V c t.val t.isLt).2.1 (ix2 0 (j 1)) = chanSum (feat V c) (j 1) := by
    refine ((totals V c (j 1) t.val t.isLt).1).trans ?_
    rw [h15]
    exact sum_term (feat V c) (j 1)
  refine Eq.trans ?_ (e.trans ?_)
  · refine congrArg (outsAt1 (F := Ideal) V c t.val t.isLt).2.1 (funext fun d => Fin.ext ?_)
    match d with
    | ⟨0, _⟩ => have h : (j 0).val < 1 := (j 0).isLt; show (j 0).val = 0; omega
    | ⟨1, _⟩ => rfl
  · show _ = chanSum (feat V c) _
    refine congrArg (chanSum (feat V c)) (Fin.ext ?_)
    show (j 1).val = win1_6.index t 1 * 256 + 1 * (j 1).val
    rw [(idx_6 t).2]; omega

/-- The size of the window at each point. -/
theorem size_6 : ∀ t : Fin grid1.N, win1_6.xsize (grid1.coords t) 0 = 1 ∧ win1_6.xsize (grid1.coords t) 1 = 256 := by decide +kernel

/-- Every index is written back by some point. -/
theorem cover_6 (i : S1x256.Idx) :
    ∃ t : Fin cfg1.N, (cfg1.win 6).flush t = true ∧ i ∈ ((cfg1.win 6).blk t).view.set := by
  have hN : cfg1.N = 16 := N_1
  have h0 : (i 0 : Nat) < 1 := (i 0).isLt
  have h1 : (i 1 : Nat) < 256 := (i 1).isLt
  have ht : 15 < cfg1.N := by omega
  refine ⟨⟨15, ht⟩, (flush1_6 _).mpr rfl, ?_⟩
  generalize (⟨15, ht⟩ : Fin cfg1.N) = t
  show i ∈ ((View.whole main_v20_1).slice (win1_6.rect t)).set
  rw [View.set_slice_whole, Rect.mem_set_unit]
  intro a
  match a with
  | ⟨0, _⟩ => show win1_6.index t 0 * 1 ≤ (i 0 : Nat) ∧ (i 0 : Nat) < win1_6.index t 0 * 1 + win1_6.xsize (grid1.coords t) 0
              rw [(idx_6 t).1, (size_6 t).1]; omega
  | ⟨1, _⟩ => show win1_6.index t 1 * 256 ≤ (i 1 : Nat) ∧ (i 1 : Nat) < win1_6.index t 1 * 256 + win1_6.xsize (grid1.coords t) 1
              rw [(idx_6 t).2, (size_6 t).2]; omega

/-- The channel totals after the grid. -/
theorem final_6 : (dat1 (F := Ideal) V c).arrAt 6 cfg1.N = sumArr V c :=
  (dat1 (F := Ideal) V c).arrAt_eq_of_cover 6 (sumArr V c) (flushed_6 V c) cover_6

/-- What a point writes back is its block of the array claimed. -/
theorem flushed_7 (t : Fin cfg1.N) (hf : (cfg1.win 7).flush t = true) :
    (dat1 (F := Ideal) V c).flushed 7 t = ((cfg1.win 7).blk t).view.read (Elt Ideal) (sqArr V c) := by
  have hN : cfg1.N = 16 := N_1
  have h15 : t.val = 15 := by have := (flush1_7 t).mp hf; have := t.isLt; omega
  show (cfg1.win 7).cut (grid1.coords t) ((dat1 (F := Ideal) V c).after 7 t) = _
  rw [after1_7]
  funext j
  rw [View.read_apply]
  have e : (outsAt1 (F := Ideal) V c t.val t.isLt).2.2 (ix2 0 (j 1)) = chanSum (sq V c) (j 1) := by
    refine ((totals V c (j 1) t.val t.isLt).2).trans ?_
    rw [h15]
    exact sum_term (sq V c) (j 1)
  refine Eq.trans ?_ (e.trans ?_)
  · refine congrArg (outsAt1 (F := Ideal) V c t.val t.isLt).2.2 (funext fun d => Fin.ext ?_)
    match d with
    | ⟨0, _⟩ => have h : (j 0).val < 1 := (j 0).isLt; show (j 0).val = 0; omega
    | ⟨1, _⟩ => rfl
  · show _ = chanSum (sq V c) _
    refine congrArg (chanSum (sq V c)) (Fin.ext ?_)
    show (j 1).val = win1_7.index t 1 * 256 + 1 * (j 1).val
    rw [(idx_7 t).2]; omega

/-- The size of the window at each point. -/
theorem size_7 : ∀ t : Fin grid1.N, win1_7.xsize (grid1.coords t) 0 = 1 ∧ win1_7.xsize (grid1.coords t) 1 = 256 := by decide +kernel

/-- Every index is written back by some point. -/
theorem cover_7 (i : S1x256.Idx) :
    ∃ t : Fin cfg1.N, (cfg1.win 7).flush t = true ∧ i ∈ ((cfg1.win 7).blk t).view.set := by
  have hN : cfg1.N = 16 := N_1
  have h0 : (i 0 : Nat) < 1 := (i 0).isLt
  have h1 : (i 1 : Nat) < 256 := (i 1).isLt
  have ht : 15 < cfg1.N := by omega
  refine ⟨⟨15, ht⟩, (flush1_7 _).mpr rfl, ?_⟩
  generalize (⟨15, ht⟩ : Fin cfg1.N) = t
  show i ∈ ((View.whole main_v20_2).slice (win1_7.rect t)).set
  rw [View.set_slice_whole, Rect.mem_set_unit]
  intro a
  match a with
  | ⟨0, _⟩ => show win1_7.index t 0 * 1 ≤ (i 0 : Nat) ∧ (i 0 : Nat) < win1_7.index t 0 * 1 + win1_7.xsize (grid1.coords t) 0
              rw [(idx_7 t).1, (size_7 t).1]; omega
  | ⟨1, _⟩ => show win1_7.index t 1 * 256 ≤ (i 1 : Nat) ∧ (i 1 : Nat) < win1_7.index t 1 * 256 + win1_7.xsize (grid1.coords t) 1
              rw [(idx_7 t).2, (size_7 t).2]; omega

/-- The squares' channel totals after the grid. -/
theorem final_7 : (dat1 (F := Ideal) V c).arrAt 7 cfg1.N = sqArr V c :=
  (dat1 (F := Ideal) V c).arrAt_eq_of_cover 7 (sqArr V c) (flushed_7 V c) cover_7

end Cert.KernelIdeal.Region1
-- ==== Proof.Region2.lean ====
/- The third kernel function over its grid: the array it leaves, index by index. -/
module

public import proofs.«01_k».proof.Proof.Payload
public import proofs.«01_k».proof.Proof.Gen.KernelIdeal.Frame
public import proofs.«01_k».proof.Proof.Region1

@[expose] public section

set_option maxRecDepth 16384

noncomputable section

namespace Cert.KernelIdeal.Region2

open Cert.KernelIdeal Cert.KernelIdeal.Gen Cert.KernelIdeal.Pay Cert.Value
open Cert.KernelIdeal.Region1 (cut)
open Idealize.ShloMosaic Idealize.ShloMosaic.ValueIdx Idealize.ShloMosaic.TcCoe Idealize.SL.Sem

variable (V : (c : Dev nD) → (b : Ref sig .tc) → Buf (Elt Ideal) ((c : Thread nD τ).loc b)) (c : Dev nD)

/-- The batch a grid point works on. -/
abbrev tb (t : Fin cfg2.N) : Fin 16 := ⟨t.val, by have := t.isLt; have h : cfg2.N = 16 := N_2; omega⟩

/-- Which block of its array the window is on at each point. -/
theorem idx_0 : ∀ t : Fin grid2.N, win2_0.index t 0 = t.val ∧ win2_0.index t 1 = 0 ∧ win2_0.index t 2 = 0 := by decide +kernel
/-- Which block of its array the window is on at each point. -/
theorem idx_3 : ∀ t : Fin grid2.N, win2_3.index t 0 = t.val ∧ win2_3.index t 1 = 0 ∧ win2_3.index t 2 = 0 := by decide +kernel
/-- Which block of its array the window is on at each point. -/
theorem idx_1 : ∀ t : Fin grid2.N, win2_1.index t 0 = 0 ∧ win2_1.index t 1 = 0 := by decide +kernel
/-- Which block of its array the window is on at each point. -/
theorem idx_2 : ∀ t : Fin grid2.N, win2_2.index t 0 = 0 ∧ win2_2.index t 1 = 0 := by decide +kernel

/-- The second layer's block. -/
def b0 (t : Fin cfg2.N) : S1x256x4096.Idx → EReal := iblk2 (F := Ideal) V c 0 t
/-- The block at an index. -/
theorem b0_apply (t : Fin cfg2.N) (i : Fin 256) (j : Fin 4096) : b0 V c t (ix3 0 i j) = V c main_v20_0 (ix3 (tb t) i j) := by
  unfold b0 iblk2
  rw [View.read_apply]
  refine congrArg (V c main_v20_0) (funext fun d => Fin.ext ?_)
  match d with
  | ⟨0, _⟩ => show win2_0.index t 0 * 1 + 1 * 0 = t.val; rw [(idx_0 t).1]; omega
  | ⟨1, _⟩ => show win2_0.index t 1 * 256 + 1 * i.val = i.val; rw [(idx_0 t).2.1]; omega
  | ⟨2, _⟩ => show win2_0.index t 2 * 4096 + 1 * j.val = j.val; rw [(idx_0 t).2.2]; omega

/-- The second normalisation's scales. -/
def b1 (t : Fin cfg2.N) : S256x1.Idx → EReal := iblk2 (F := Ideal) V c 1 t
/-- The block at an index. -/
theorem b1_apply (t : Fin cfg2.N) (i : Fin 256) (j : Fin 1) : b1 V c t (ix2 i j) = V c main_v35 (ix2 i j) := by
  unfold b1 iblk2
  rw [View.read_apply]
  refine congrArg (V c main_v35) (funext fun d => Fin.ext ?_)
  match d with
  | ⟨0, _⟩ => show win2_1.index t 0 * 256 + 1 * i.val = i.val; rw [(idx_1 t).1]; omega
  | ⟨1, _⟩ => show win2_1.index t 1 * 1 + 1 * j.val = j.val; rw [(idx_1 t).2]; omega

/-- The second normalisation's shifts. -/
def b2 (t : Fin cfg2.N) : S256x1.Idx → EReal := iblk2 (F := Ideal) V c 2 t
/-- The block at an index. -/
theorem b2_apply (t : Fin cfg2.N) (i : Fin 256) (j : Fin 1) : b2 V c t (ix2 i j) = V c main_v36 (ix2 i j) := by
  unfold b2 iblk2
  rw [View.read_apply]
  refine congrArg (V c main_v36) (funext fun d => Fin.ext ?_)
  match d with
  | ⟨0, _⟩ => show win2_2.index t 0 * 256 + 1 * i.val = i.val; rw [(idx_2 t).1]; omega
  | ⟨1, _⟩ => show win2_2.index t 1 * 1 + 1 * j.val = j.val; rw [(idx_2 t).2]; omega

/-- The offset written as a list is zero on every axis. -/
theorem hz3 : (![0, 0, 0] : Fin 3 → Nat) = fun _ => 0 := funext fun a => by fin_cases a <;> rfl
/-- The offset written as a list is zero on every axis. -/
theorem hz2 : (![0, 0] : Fin 2 → Nat) = fun _ => 0 := funext fun a => by fin_cases a <;> rfl

/-- The result, from the arrays the function reads. -/
def feat (b : Fin 16) (o : Fin 256) (i : Fin 4096) : EReal := cut (V c main_v20_0) (V c main_v35) (V c main_v36) b o i

/-- The block left at every point. -/
theorem block (t : Fin cfg2.N) (o : Fin 256) (i : Fin 4096) :
    out2_3 (F := Ideal) (b0 V c t) (b1 V c t) (b2 V c t) (ix3 0 o i) = feat V c (tb t) o i := by
  unfold out2_3
  rw [View.canon_unit_zero (S := S1x256x4096) hz3, View.ld_unit_zero (S := S1x256x4096) hz3, View.ld_unit_zero (S := S256x1) hz2,
    View.ld_unit_zero (S := S256x1) hz2]
  refine (out_apply (b0 V c t) (b1 V c t) (b2 V c t) o i).trans ?_
  unfold feat act cut
  rw [b0_apply, b1_apply, b2_apply]

/-- The result as contents of its array. -/
def featArr : Buf (Elt Ideal) ((c : Thread nD τ).loc main_v37) := fun (j : S16x256x4096.Idx) => feat V c (j 0) (j 1) (j 2)
/-- What a point writes back is its block of the array claimed. -/
theorem flushed_3 (t : Fin cfg2.N) :
    (dat2 (F := Ideal) V c).flushed 3 t = ((cfg2.win 3).blk t).view.read (Elt Ideal) (featArr V c) := by
  show (cfg2.win 3).cut (grid2.coords t) ((dat2 (F := Ideal) V c).after 3 t) = _
  rw [after2_3]
  funext j
  rw [View.read_apply]
  have e : out2_3 (F := Ideal) (b0 V c t) (b1 V c t) (b2 V c t) (ix3 0 (j 1) (j 2)) = feat V c (tb t) (j 1) (j 2) := block V c t (j 1) (j 2)
  refine Eq.trans ?_ (e.trans ?_)
  · refine congrArg (out2_3 (F := Ideal) (b0 V c t) (b1 V c t) (b2 V c t)) (funext fun d => Fin.ext ?_)
    match d with
    | ⟨0, _⟩ => have h : (j 0).val < 1 := (j 0).isLt; show (j 0).val = 0; omega
    | ⟨1, _⟩ => rfl
    | ⟨2, _⟩ => rfl
  · have h : (j 0).val < 1 := (j 0).isLt
    show _ = feat V c _ _ _
    refine congr (congrArg₂ (feat V c) (Fin.ext ?_) (Fin.ext ?_)) (Fin.ext ?_)
    · show t.val = win2_3.index t 0 * 1 + 1 * (j 0).val; rw [(idx_3 t).1]; omega
    · show (j 1).val = win2_3.index t 1 * 256 + 1 * (j 1).val; rw [(idx_3 t).2.1]; omega
    · show (j 2).val = win2_3.index t 2 * 4096 + 1 * (j 2).val; rw [(idx_3 t).2.2]; omega

/-- The size of the window at each point. -/
theorem size_3 : ∀ t : Fin grid2.N, win2_3.xsize (grid2.coords t) 0 = 1 ∧ win2_3.xsize (grid2.coords t) 1 = 256 ∧ win2_3.xsize (grid2.coords t) 2 = 4096 := by decide +kernel

/-- Every index is written back by some point. -/
theorem cover_3 (i : S16x256x4096.Idx) :
    ∃ t : Fin cfg2.N, (cfg2.win 3).flush t = true ∧ i ∈ ((cfg2.win 3).blk t).view.set := by
  have hN : cfg2.N = 16 := N_2
  have h0 : (i 0 : Nat) < 16 := (i 0).isLt
  have h1 : (i 1 : Nat) < 256 := (i 1).isLt
  have h2 : (i 2 : Nat) < 4096 := (i 2).isLt
  have ht : (i 0 : Nat) < cfg2.N := by omega
  refine ⟨⟨(i 0 : Nat), ht⟩, flush2_3 _, ?_⟩
  generalize hT : (⟨(i 0 : Nat), ht⟩ : Fin cfg2.N) = t
  have hv : t.val = (i 0 : Nat) := by rw [← hT]
  show i ∈ ((View.whole main_v37).slice (win2_3.rect t)).set
  rw [View.set_slice_whole, Rect.mem_set_unit]
  intro a
  match a with
  | ⟨0, _⟩ => show win2_3.index t 0 * 1 ≤ (i 0 : Nat) ∧ (i 0 : Nat) < win2_3.index t 0 * 1 + win2_3.xsize (grid2.coords t) 0
              rw [(idx_3 t).1, (size_3 t).1]; omega
  | ⟨1, _⟩ => show win2_3.index t 1 * 256 ≤ (i 1 : Nat) ∧ (i 1 : Nat) < win2_3.index t 1 * 256 + win2_3.xsize (grid2.coords t) 1
              rw [(idx_3 t).2.1, (size_3 t).2.1]; omega
  | ⟨2, _⟩ => show win2_3.index t 2 * 4096 ≤ (i 2 : Nat) ∧ (i 2 : Nat) < win2_3.index t 2 * 4096 + win2_3.xsize (grid2.coords t) 2
              rw [(idx_3 t).2.2, (size_3 t).2.2]; omega

/-- The result array after the grid. -/
theorem final_3 : (dat2 (F := Ideal) V c).arrAt 3 cfg2.N = featArr V c :=
  (dat2 (F := Ideal) V c).arrAt_eq_of_cover 3 (featArr V c) (fun t _ => flushed_3 V c t) cover_3

end Cert.KernelIdeal.Region2
-- ==== Proof.Result.lean ====
/- The kernel's result as one formula of its arguments: the three kernels and the host lines between them put together,
   giving the kernel's network `knet` at every index. -/
module

public import proofs.«01_k».proof.Proof.Host
public import proofs.«01_k».proof.Proof.Region0
public import proofs.«01_k».proof.Proof.Region1
public import proofs.«01_k».proof.Proof.Region2

@[expose] public section

set_option maxRecDepth 16384

noncomputable section

namespace Cert.KernelIdeal.Result

open Cert.KernelIdeal Cert.KernelIdeal.Gen Cert.Value
open Cert.KernelIdeal.Region1 (cut)
open Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

/-- An argument at launch. -/
abbrev arg (a : Ref sig .tc) : Buf (Elt Ideal) ((c : Thread nD τ).loc a) := m ((c : Thread nD τ).loc a)

/-- The first layer before its normalisation. -/
def Y0 : Feat := layer2 (fun o k => arg m c main_arg4 (ix2 o k)) (fun o => arg m c main_arg5 (ix1 o))
  (kinterp (d2 (fun b i a => arg m c main_arg0 (ix3 b i a)) (fun b k a => arg m c main_arg1 (ix3 b k a)))
    (fun b k j => arg m c main_arg3 (ix3 b k j))) (fun b k i => arg m c main_arg2 (ix3 b k i))

/-- The first layer. -/
def Z0 : Feat := knormed (fun o => arg m c main_arg6 (ix1 o)) (fun o => arg m c main_arg7 (ix1 o)) (Y0 m c)

/-- The second layer before its normalisation. -/
def Y1 : Feat := layer (fun o k => arg m c main_arg8 (ix2 o k)) (fun o => arg m c main_arg9 (ix1 o)) (Z0 m c)

/-- The second layer: the result. -/
def Z1 : Feat := knormed (fun o => arg m c main_arg10 (ix1 o)) (fun o => arg m c main_arg11 (ix1 o)) (Y1 m c)

/-- Scaling, shifting and cutting `y` at zero with the scales and shifts of its own channel totals normalises it. -/
theorem cut_eq (y : Feat) (Y : S16x256x4096.Idx → EReal) (g be : S256.Idx → EReal) (s d : S256x1.Idx → EReal) (S Q : S1x256.Idx → EReal)
    (hY : ∀ b o i, Y (ix3 b o i) = y b o i) (hS : ∀ o, S (ix2 0 o) = chanSum y o)
    (hQ : ∀ o, Q (ix2 0 o) = chanSum (fun b o i => y b o i * y b o i) o)
    (hs : ∀ o : Fin 256, s (ix2 o 0) = kscale cnt eps (g (ix1 o)) (S (ix2 0 o)) (Q (ix2 0 o)))
    (hd : ∀ o : Fin 256, d (ix2 o 0) = kshift cnt eps (g (ix1 o)) (be (ix1 o)) (S (ix2 0 o)) (Q (ix2 0 o))) :
    cut Y s d = knormed (fun o => g (ix1 o)) (fun o => be (ix1 o)) y := by
  funext b o i
  unfold cut knormed knorm
  rw [hs, hd, hS, hQ, hY]

/-- The first kernel's features are the first layer's. -/
theorem feat0 (b : Fin 16) (o : Fin 256) (i : Fin 4096) : Region0.feat (V1 m ρ) c b o i = Y0 m c b o i := by
  have h0 : V1 m ρ c main_arg0 = arg m c main_arg0 := W1_args m ρ c main_arg0 (by decide)
  have h2 : V1 m ρ c main_arg2 = arg m c main_arg2 := W1_args m ρ c main_arg2 (by decide)
  have h3 : V1 m ρ c main_arg3 = arg m c main_arg3 := W1_args m ρ c main_arg3 (by decide)
  have h4 : V1 m ρ c main_arg4 = arg m c main_arg4 := W1_args m ρ c main_arg4 (by decide)
  have e0 : (fun (b : Fin 16) (k : Fin 1024) (a : Fin 3) => V1 m ρ c main_v0 (ix3 b a k))
      = fun b k a => arg m c main_arg1 (ix3 b k a) := funext fun b => funext fun k => funext fun a => Host.ops0_v0 (W0 m ρ c) b a k
  have e1 : (fun o : Fin 256 => V1 m ρ c main_v1 (ix2 o 0)) = fun o => arg m c main_arg5 (ix1 o) :=
    funext fun o => Host.ops0_v1 (W0 m ρ c) o
  unfold Region0.feat Y0
  rw [e0, e1, h0, h2, h3, h4]

/-- What the second kernel reads as its scaled, shifted and cut input is the first layer. -/
theorem cut0 : cut (V3 m ρ c main_v2_0) (V3 m ρ c main_v18) (V3 m ρ c main_v19) = Z0 m c := by
  have f : ∀ b o i, Region0.feat (V1 m ρ) c b o i = Y0 m c b o i := feat0 m ρ c
  have ff : (fun b o i => Region0.feat (V1 m ρ) c b o i) = Y0 m c := funext fun b => funext fun o => funext fun i => f b o i
  have y : W2 m ρ c (Proc.devRef .tc main_v2_0) = Region0.featArr (V1 m ρ) c := (W2_arr m ρ c 6).trans (Region0.final_6 (V1 m ρ) c)
  have s : W2 m ρ c (Proc.devRef .tc main_v2_1) = Region0.sumArr (V1 m ρ) c := (W2_arr m ρ c 7).trans (Region0.final_7 (V1 m ρ) c)
  have q : W2 m ρ c (Proc.devRef .tc main_v2_2) = Region0.sqArr (V1 m ρ) c := (W2_arr m ρ c 8).trans (Region0.final_8 (V1 m ρ) c)
  have g : W2 m ρ c (Proc.devRef .tc main_arg6) = arg m c main_arg6 := W2_args m ρ c main_arg6 (by decide)
  have be : W2 m ρ c (Proc.devRef .tc main_arg7) = arg m c main_arg7 := W2_args m ρ c main_arg7 (by decide)
  refine cut_eq (Y0 m c) (V3 m ρ c main_v2_0) (arg m c main_arg6) (arg m c main_arg7) (V3 m ρ c main_v18) (V3 m ρ c main_v19)
    (W2 m ρ c (Proc.devRef .tc main_v2_1)) (W2 m ρ c (Proc.devRef .tc main_v2_2)) ?_ ?_ ?_ ?_ ?_
  · intro b o i
    refine (congrFun ((W3_of m ρ c main_v2_0 (by decide)).trans y) (ix3 b o i)).trans ?_
    exact f b o i
  · intro o
    refine (congrFun s (ix2 0 o)).trans ?_
    exact congrArg (fun z : Feat => chanSum z o) ff
  · intro o
    refine (congrFun q (ix2 0 o)).trans ?_
    exact congrArg (fun z : Feat => chanSum (fun b o i => z b o i * z b o i) o) ff
  · intro o
    rw [← g]
    exact Host.ops1_scale (W2 m ρ c) o
  · intro o
    rw [← g, ← be]
    exact Host.ops1_shift (W2 m ρ c) o

/-- The second kernel's features are the second layer's. -/
theorem feat1 (b : Fin 16) (o : Fin 256) (i : Fin 4096) : Region1.feat (V3 m ρ) c b o i = Y1 m c b o i := by
  have h8 : V3 m ρ c main_arg8 = arg m c main_arg8 := W3_args m ρ c main_arg8 (by decide)
  have h9 : W2 m ρ c (Proc.devRef .tc main_arg9) = arg m c main_arg9 := W2_args m ρ c main_arg9 (by decide)
  have e1 : (fun o : Fin 256 => V3 m ρ c main_v17 (ix2 o 0)) = fun o => arg m c main_arg9 (ix1 o) :=
    funext fun o => (Host.ops1_v17 (W2 m ρ c) o).trans (congrFun h9 (ix1 o))
  unfold Region1.feat Y1
  rw [e1, h8, cut0]

/-- What the third kernel writes is the second layer. -/
theorem cut1 : cut (V5 m ρ c main_v20_0) (V5 m ρ c main_v35) (V5 m ρ c main_v36) = Z1 m c := by
  have f : ∀ b o i, Region1.feat (V3 m ρ) c b o i = Y1 m c b o i := feat1 m ρ c
  have ff : (fun b o i => Region1.feat (V3 m ρ) c b o i) = Y1 m c := funext fun b => funext fun o => funext fun i => f b o i
  have y : W4 m ρ c (Proc.devRef .tc main_v20_0) = Region1.featArr (V3 m ρ) c := (W4_arr m ρ c 5).trans (Region1.final_5 (V3 m ρ) c)
  have s : W4 m ρ c (Proc.devRef .tc main_v20_1) = Region1.sumArr (V3 m ρ) c := (W4_arr m ρ c 6).trans (Region1.final_6 (V3 m ρ) c)
  have q : W4 m ρ c (Proc.devRef .tc main_v20_2) = Region1.sqArr (V3 m ρ) c := (W4_arr m ρ c 7).trans (Region1.final_7 (V3 m ρ) c)
  have g : W4 m ρ c (Proc.devRef .tc main_arg10) = arg m c main_arg10 := W4_args m ρ c main_arg10 (by decide)
  have be : W4 m ρ c (Proc.devRef .tc main_arg11) = arg m c main_arg11 := W4_args m ρ c main_arg11 (by decide)
  refine cut_eq (Y1 m c) (V5 m ρ c main_v20_0) (arg m c main_arg10) (arg m c main_arg11) (V5 m ρ c main_v35) (V5 m ρ c main_v36)
    (W4 m ρ c (Proc.devRef .tc main_v20_1)) (W4 m ρ c (Proc.devRef .tc main_v20_2)) ?_ ?_ ?_ ?_ ?_
  · intro b o i
    refine (congrFun ((W5_of m ρ c main_v20_0 (by decide)).trans y) (ix3 b o i)).trans ?_
    exact f b o i
  · intro o
    refine (congrFun s (ix2 0 o)).trans ?_
    exact congrArg (fun z : Feat => chanSum z o) ff
  · intro o
    refine (congrFun q (ix2 0 o)).trans ?_
    exact congrArg (fun z : Feat => chanSum (fun b o i => z b o i * z b o i) o) ff
  · intro o
    rw [← g]
    exact Host.ops2_scale (W4 m ρ c) o
  · intro o
    rw [← g, ← be]
    exact Host.ops2_shift (W4 m ρ c) o

/-- The result buffer ends at the kernel's network of the arguments at launch. -/
theorem result (b : Fin 16) (o : Fin 256) (i : Fin 4096) : W6 m ρ c (Proc.devRef .tc main_v37) (ix3 b o i)
    = knet (fun b i a => arg m c main_arg0 (ix3 b i a)) (fun b k a => arg m c main_arg1 (ix3 b k a)) (fun b k i => arg m c main_arg2 (ix3 b k i))
        (fun b k j => arg m c main_arg3 (ix3 b k j)) (fun o k => arg m c main_arg4 (ix2 o k)) (fun o => arg m c main_arg5 (ix1 o))
        (fun o => arg m c main_arg6 (ix1 o)) (fun o => arg m c main_arg7 (ix1 o)) (fun o k => arg m c main_arg8 (ix2 o k))
        (fun o => arg m c main_arg9 (ix1 o)) (fun o => arg m c main_arg10 (ix1 o)) (fun o => arg m c main_arg11 (ix1 o)) b o i := by
  have y : W6 m ρ c (Proc.devRef .tc main_v37) = Region2.featArr (V5 m ρ) c := (W6_arr m ρ c 3).trans (Region2.final_3 (V5 m ρ) c)
  refine (congrFun y (ix3 b o i)).trans ?_
  exact congrFun (congrFun (congrFun (cut1 m ρ c) b) o) i

end Cert.KernelIdeal.Result
-- ==== Proof.RefInterp.lean ====
/- The reference's interpolated features: distances, the three nearest points, their weights, and the gathered features. -/
module

public import proofs.«01_k».proof.Proof.Spec
public import proofs.«01_k».proof.Proof.Gen.ReferenceIdeal.Read
public import Idealize.ShloMosaic.Lib.IdealHost

@[expose] public section

noncomputable section

namespace Cert.ReferenceIdeal.Term

open Cert.ReferenceIdeal Cert.ReferenceIdeal.Gen Cert.ReferenceIdeal.Read Cert.Value
open Idealize.ShloMosaic Idealize.ShloMosaic.ValueIdx Idealize.ShloMosaic.TcCoe Idealize.SL.Sem Idealize.ShloMosaic.StableHlo

variable (x0 : (⟨S16x4096x3, .f32⟩ : BufTy).Contents (Elt Ideal)) (x1 : (⟨S16x1024x3, .f32⟩ : BufTy).Contents (Elt Ideal))
  (x2 : (⟨S16x256x4096, .f32⟩ : BufTy).Contents (Elt Ideal)) (x3 : (⟨S16x256x1024, .f32⟩ : BufTy).Contents (Elt Ideal))

/-- The distances of the argument arrays. -/
abbrev dist : Fin 16 → Fin 4096 → Fin 1024 → EReal :=
  d2 (fun b i a => x0 (ix3 b i a)) (fun b k a => x1 (ix3 b k a))

/-- The literal of zero. -/
theorem zero_bits : FloatOps.ofBits (F := Ideal) .f32 0x00000000#32 = (0 : EReal) := Ideal.ofBits_zero_f32

/-- A squared coordinate difference at an index. -/
theorem v5_apply (b : Fin 16) (i : Fin 4096) (k : Fin 1024) (a : Fin 3) :
    val_main_v5 (F := Ideal) x0 x1 (ix4 b i k a)
      = (x0 (ix3 b i a) - x1 (ix3 b k a)) * (x0 (ix3 b i a) - x1 (ix3 b k a)) := by
  rw [val_main_v5_apply, val_main_v4_apply, val_main_v2_apply, val_main_v0_apply, val_main_v3_apply, val_main_v1_apply]
  have e0 : idx_main_v0 (idx_main_v2 (ix4 b i k a)) = ix3 b i a := by
    funext d; match d with | ⟨0, _⟩ => rfl | ⟨1, _⟩ => rfl | ⟨2, _⟩ => rfl
  have e1 : idx_main_v1 (idx_main_v3 (ix4 b i k a)) = ix3 b k a := by
    funext d; match d with | ⟨0, _⟩ => rfl | ⟨1, _⟩ => rfl | ⟨2, _⟩ => rfl
  rw [e0, e1]
  rfl

/-- A squared distance at an index. -/
theorem v6_apply (b : Fin 16) (i : Fin 4096) (k : Fin 1024) :
    val_main_v6 (F := Ideal) x0 x1 (ix3 b i k) = dist x0 x1 b i k := by
  rw [val_main_v6_apply, val_main_cst_apply, zero_bits, zero_add]
  refine Finset.sum_congr rfl fun a _ => ?_
  have e : idx_main_v6 (ix3 b i k) a = ix4 b i k a := by
    funext d; match d with | ⟨0, _⟩ => rfl | ⟨1, _⟩ => rfl | ⟨2, _⟩ => rfl | ⟨3, _⟩ => rfl
  rw [e]
  exact v5_apply x0 x1 b i k a

/-- A negated squared distance at an index. -/
theorem v7_apply (b : Fin 16) (i : Fin 4096) (k : Fin 1024) :
    val_main_v7 (F := Ideal) x0 x1 (ix3 b i k) = - dist x0 x1 b i k := by
  rw [val_main_v7_apply, v6_apply]
  rfl

/-- The negated squared distances of one unknown point. -/
theorem v7_fiber (b : Fin 16) (i : Fin 4096) :
    (fun k => val_main_v7 (F := Ideal) x0 x1 (ix3 b i k)) = fun k => - dist x0 x1 b i k :=
  funext fun k => v7_apply x0 x1 b i k

/-- The greatest negated distances, in order. -/
theorem values_apply (b : Fin 16) (i : Fin 4096) (j : Fin 3) :
    val_main_values (F := Ideal) x0 x1 (ix3 b i j) = - dist x0 x1 b i (near (dist x0 x1 b i) j) := by
  have h := topK_values (val_main_v7 (F := Ideal) x0 x1) sliceFits_S16x4096x1024_S16x4096x3 (by decide) b i j
  rw [v7_fiber, v7_apply] at h
  exact h

/-- The positions of the nearest points, in order. -/
theorem indices_apply (b : Fin 16) (i : Fin 4096) (j : Fin 3) :
    val_main_indices (F := Ideal) x0 x1 (ix3 b i j) = BitVec.ofNat 32 (near (dist x0 x1 b i) j).val := by
  have h := topK_indices (val_main_v7 (F := Ideal) x0 x1) sliceFits_S16x4096x1024_S16x4096x3 (by decide) b i j
  rw [v7_fiber] at h
  exact h

/-- The literal of one. -/
theorem one_bits : FloatOps.ofBits (F := Ideal) .f32 0x3F800000#32 = (1 : EReal) := by
  show Ideal.ofBits .f32 0x3F800000#32 = 1
  simp [Ideal.ofBits, Ideal.ieee, -EReal.coe_mul]
  norm_num

/-- The reciprocal distances of the nearest points. -/
theorem v13_apply (b : Fin 16) (i : Fin 4096) (j : Fin 3) :
    val_main_v13 (F := Ideal) x0 x1 (ix3 b i j)
      = Ideal.div 1 (Ideal.sqrt (max (dist x0 x1 b i (near (dist x0 x1 b i) j)) 0)) := by
  rw [val_main_v13_apply, val_main_v12_apply, val_main_cst_1_apply, one_bits, val_main_v11_apply, val_main_v10_apply,
    val_main_v9_apply, val_main_cst_0_apply, zero_bits, val_main_v8_apply, values_apply]
  show Ideal.div 1 (Ideal.sqrt (max (- - dist x0 x1 b i (near (dist x0 x1 b i) j)) 0)) = _
  rw [neg_neg]

/-- The weights of the nearest points. -/
theorem v17_apply (b : Fin 16) (i : Fin 4096) (j : Fin 3) :
    val_main_v17 (F := Ideal) x0 x1 (ix3 b i j)
      = rweight (fun j => dist x0 x1 b i (near (dist x0 x1 b i) j)) j := by
  rw [val_main_v17_apply, val_main_v16_apply, val_main_v15_apply, val_main_v14_apply, val_main_cst_2_apply, zero_bits,
    zero_add, v13_apply]
  have e : ∀ l : Fin 3, idx_main_v14 (idx_main_v15 (idx_main_v16 (ix3 b i j))) l = ix3 b i l := fun l => by
    funext d; match d with | ⟨0, _⟩ => rfl | ⟨1, _⟩ => rfl | ⟨2, _⟩ => rfl
  have s : ∑ l : Fin 3, val_main_v13 (F := Ideal) x0 x1 (idx_main_v14 (idx_main_v15 (idx_main_v16 (ix3 b i j))) l)
      = ∑ l : Fin 3, Ideal.div 1 (Ideal.sqrt (max (dist x0 x1 b i (near (dist x0 x1 b i) l)) 0)) :=
    Finset.sum_congr rfl fun l _ => by rw [e, v13_apply]
  rw [s]
  rfl

/-- A position below 2³¹ is not negative. -/
theorem wrap (n : ℕ) (hn : n < 4096) (y : BitVec 32) :
    Scalar.select (IntOp.cmpi .slt (BitVec.ofNat 32 n) 0#32) y (BitVec.ofNat 32 n) = BitVec.ofNat 32 n := by
  have h : IntOp.cmpi .slt (BitVec.ofNat 32 n) 0#32 = 0#1 := by
    show BitVec.ofBool (BitVec.slt (BitVec.ofNat 32 n) 0#32) = 0#1
    rw [BitVec.slt_eq_decide]
    have : ¬ (BitVec.ofNat 32 n).toInt < (0#32 : BitVec 32).toInt := by
      rw [BitVec.toInt_ofNat']
      simp [Int.bmod]
      omega
    rw [decide_eq_false this]
    rfl
  rw [h]
  rfl

/-- The batch index of a gathered row. -/
theorem v32_apply (b : Fin 16) (i : Fin 4096) (j : Fin 3) :
    val_main_v32 (F := Ideal) (ix4 b i j 0) = BitVec.ofNat 32 b.val := by
  rw [val_main_v32_apply, val_main_v31_apply, val_main_v25_apply, val_main_v22_apply, val_main_v24_apply,
    val_main_v21_apply, val_main_v20_apply, val_main_v19_apply, val_main_c_apply]
  exact wrap b.val (by omega) _

/-- The known point's index of a gathered row. -/
theorem v33_apply (b : Fin 16) (i : Fin 4096) (j : Fin 3) :
    val_main_v33 (F := Ideal) x0 x1 (ix4 b i j 0) = BitVec.ofNat 32 (near (dist x0 x1 b i) j).val := by
  have e : idx_main_v33 (ix4 b i j 0) = ix3 b i j := by
    funext d; match d with | ⟨0, _⟩ => rfl | ⟨1, _⟩ => rfl | ⟨2, _⟩ => rfl
  rw [val_main_v33_apply, e, val_main_v30_apply, val_main_v27_apply, indices_apply, val_main_v26_apply,
    val_main_c_4_apply]
  exact wrap _ (by omega) _

/-- The first component of the pair of indices. -/
theorem v34_apply_zero (b : Fin 16) (i : Fin 4096) (j : Fin 3) :
    val_main_v34 (F := Ideal) x0 x1 (ix4 b i j 0) = BitVec.ofNat 32 b.val := by
  rw [← v32_apply b i j]
  exact concatenate_pair_apply_left 3 _ _ concatenates_S16x4096x3x1_S16x4096x3x1_S16x4096x3x2_d3 _ rfl (ix4 b i j 0)
    (fun d => by match d with | ⟨0, _⟩ => rfl | ⟨1, _⟩ => rfl | ⟨2, _⟩ => rfl | ⟨3, _⟩ => rfl)

/-- The second component of the pair of indices. -/
theorem v34_apply_one (b : Fin 16) (i : Fin 4096) (j : Fin 3) :
    val_main_v34 (F := Ideal) x0 x1 (ix4 b i j 1) = BitVec.ofNat 32 (near (dist x0 x1 b i) j).val := by
  rw [← v33_apply x0 x1 b i j]
  exact concatenate_pair_apply_right 3 _ _ concatenates_S16x4096x3x1_S16x4096x3x1_S16x4096x3x2_d3 _ rfl rfl (ix4 b i j 0)
    (fun d hd => by match d with | ⟨0, _⟩ => rfl | ⟨1, _⟩ => rfl | ⟨2, _⟩ => rfl | ⟨3, _⟩ => exact absurd rfl hd) rfl

/-- A small number survives its 32-bit form. -/
theorem toNat_small (n : ℕ) (hn : n < 4096) : (BitVec.ofNat 32 n).toInt.toNat = n := by
  rw [BitVec.toInt_ofNat']
  simp [Int.bmod]
  omega

/-- The shape record of the gather. -/
abbrev gd : GatherDims S16x1024x256 S16x4096x3x2 S16x4096x3x256 :=
  gather_S16x1024x256_S16x4096x3x2_S16x4096x3x256_3_01_n_n_01_3_11256

/-- Where the gather reads its pair of indices. -/
theorem siIdx_eq (b : Fin 16) (i : Fin 4096) (j : Fin 3) (c : Fin 256) (q : Fin gd.startIndexMap.length) :
    gd.siIdx (ix4 b i j c) q = ix4 b i j ⟨q.val, q.isLt⟩ := by
  funext d; refine Fin.ext ?_
  match d with | ⟨0, _⟩ => rfl | ⟨1, _⟩ => rfl | ⟨2, _⟩ => rfl | ⟨3, _⟩ => rfl

/-- The gather reads batch, position and feature channel. -/
theorem gather_apply (x : S16x1024x256.Idx → EReal) (idx : IVec S16x4096x3x2 32) (b : Fin 16) (i : Fin 4096) (j : Fin 3)
    (c : Fin 256) (p : Fin 1024) (h0 : idx (ix4 b i j 0) = BitVec.ofNat 32 b.val)
    (h1 : idx (ix4 b i j 1) = BitVec.ofNat 32 p.val) :
    Host.gather gd x idx (ix4 b i j c) = x (ix3 b p c) := by
  have m0 : (0 : Fin S16x1024x256.rank) ∈ gd.startIndexMap := by decide
  have m1 : (1 : Fin S16x1024x256.rank) ∈ gd.startIndexMap := by decide
  have m2 : ¬ (2 : Fin S16x1024x256.rank) ∈ gd.startIndexMap := by decide
  have k0 : ¬ (0 : Fin S16x1024x256.rank) ∈ gd.sKept := by decide
  have k1 : ¬ (1 : Fin S16x1024x256.rank) ∈ gd.sKept := by decide
  have s0 : gd.start (ix4 b i j c) idx 0 = b.val := by
    unfold GatherDims.start
    rw [dif_pos m0, siIdx_eq]
    have e : (ix4 b i j ⟨List.idxOf (0 : Fin S16x1024x256.rank) gd.startIndexMap, List.idxOf_lt_length_iff.2 m0⟩ :
      S16x4096x3x2.Idx) = ix4 b i j 0 := rfl
    refine (congrArg (fun z => min (idx z).toInt.toNat _) e).trans ?_
    rw [h0, toNat_small _ (by omega)]
    show min b.val 15 = b.val
    omega
  have s1 : gd.start (ix4 b i j c) idx 1 = p.val := by
    unfold GatherDims.start
    rw [dif_pos m1, siIdx_eq]
    have e : (ix4 b i j ⟨List.idxOf (1 : Fin S16x1024x256.rank) gd.startIndexMap, List.idxOf_lt_length_iff.2 m1⟩ :
      S16x4096x3x2.Idx) = ix4 b i j 1 := rfl
    refine (congrArg (fun z => min (idx z).toInt.toNat _) e).trans ?_
    rw [h1, toNat_small _ (by omega)]
    show min p.val 1023 = p.val
    omega
  have s2 : gd.start (ix4 b i j c) idx 2 = 0 := by
    unfold GatherDims.start
    rw [dif_neg m2]
  have o2 : gd.offCoord (ix4 b i j c) 2 = c.val := rfl
  unfold Host.gather
  refine congrArg x ?_
  funext d; refine Fin.ext ?_
  show gd.start (ix4 b i j c) idx d + gd.batchCoord (ix4 b i j c) d + gd.offCoord (ix4 b i j c) d = _
  rw [GatherDims.batchCoord_eq_zero _ _ _ List.not_mem_nil]
  match d with
  | ⟨0, _⟩ => exact (congrArg₂ (fun u v => u + 0 + v) s0 (GatherDims.offCoord_eq_zero _ _ _ k0)).trans (by simp)
  | ⟨1, _⟩ => exact (congrArg₂ (fun u v => u + 0 + v) s1 (GatherDims.offCoord_eq_zero _ _ _ k1)).trans (by simp)
  | ⟨2, _⟩ => exact (congrArg₂ (fun u v => u + 0 + v) s2 o2).trans (by simp)

/-- The gathered features of the nearest points. -/
theorem v35_apply (b : Fin 16) (i : Fin 4096) (j : Fin 3) (c : Fin 256) :
    val_main_v35 (F := Ideal) x0 x1 x3 (ix4 b i j c) = x3 (ix3 b c (near (dist x0 x1 b i) j)) := by
  have h := gather_apply (val_main_v18 (F := Ideal) x3) (val_main_v34 (F := Ideal) x0 x1) b i j c _
    (v34_apply_zero x0 x1 b i j) (v34_apply_one x0 x1 b i j)
  refine Eq.trans h ?_
  generalize near (dist x0 x1 b i) j = p
  rw [val_main_v18_apply]
  refine congrArg x3 ?_
  funext d; match d with | ⟨0, _⟩ => rfl | ⟨1, _⟩ => rfl | ⟨2, _⟩ => rfl

/-- The interpolated features. -/
theorem v40_apply (b : Fin 16) (c : Fin 256) (i : Fin 4096) :
    val_main_v40 (F := Ideal) x0 x1 x3 (ix3 b c i) = rinterp (dist x0 x1) (fun b c k => x3 (ix3 b c k)) b c i := by
  have e : idx_main_v40 (ix3 b c i) = ix3 b i c := by
    funext d; match d with | ⟨0, _⟩ => rfl | ⟨1, _⟩ => rfl | ⟨2, _⟩ => rfl
  rw [val_main_v40_apply, e, val_main_v39_apply, val_main_cst_6_apply, zero_bits, zero_add]
  refine Finset.sum_congr rfl fun j _ => ?_
  have e2 : idx_main_v39 (ix3 b i c) j = ix4 b i j c := by
    funext d; match d with | ⟨0, _⟩ => rfl | ⟨1, _⟩ => rfl | ⟨2, _⟩ => rfl | ⟨3, _⟩ => rfl
  have e3 : idx_main_v36 (idx_main_v37 (ix4 b i j c)) = ix3 b i j := by
    funext d; match d with | ⟨0, _⟩ => rfl | ⟨1, _⟩ => rfl | ⟨2, _⟩ => rfl
  rw [e2, val_main_v38_apply, v35_apply, val_main_v37_apply, val_main_v36_apply, e3, v17_apply]
  rfl

/-- The first half of the channels: the interpolated features. -/
theorem v41_left (b : Fin 16) (c : Fin 256) (i : Fin 4096) :
    val_main_v41 (F := Ideal) x0 x1 x2 x3 (ix3 b (c.castAdd 256) i)
      = rinterp (dist x0 x1) (fun b c k => x3 (ix3 b c k)) b c i := by
  rw [← v40_apply]
  exact concatenate_pair_apply_left 1 _ _ concatenates_S16x256x4096_S16x256x4096_S16x512x4096_d1 _ rfl (ix3 b c i)
    (fun d => by match d with | ⟨0, _⟩ => rfl | ⟨1, _⟩ => rfl | ⟨2, _⟩ => rfl)

/-- The second half of the channels: the features of the unknown points. -/
theorem v41_right (b : Fin 16) (c : Fin 256) (i : Fin 4096) :
    val_main_v41 (F := Ideal) x0 x1 x2 x3 (ix3 b (c.natAdd 256) i) = x2 (ix3 b c i) :=
  concatenate_pair_apply_right 1 _ _ concatenates_S16x256x4096_S16x256x4096_S16x512x4096_d1 _ rfl rfl (ix3 b c i)
    (fun d hd => by match d with | ⟨0, _⟩ => rfl | ⟨1, _⟩ => exact absurd rfl hd | ⟨2, _⟩ => rfl)
    (by show c.val + 256 = 256 + c.val; omega)

variable (x4 : (⟨S256x512, .f32⟩ : BufTy).Contents (Elt Ideal)) (x5 : (⟨S256, .f32⟩ : BufTy).Contents (Elt Ideal))

/-- The first layer. -/
theorem v46_apply (b : Fin 16) (o : Fin 256) (i : Fin 4096) :
    val_main_v46 (F := Ideal) x0 x1 x2 x3 x4 x5 (ix3 b o i)
      = layer2 (fun o c => x4 (ix2 o c)) (fun o => x5 (ix1 o)) (rinterp (dist x0 x1) (fun b c k => x3 (ix3 b c k)))
          (fun b c i => x2 (ix3 b c i)) b o i := by
  have e : idx_main_v43 (ix3 b o i) = ix3 b i o := by
    funext d; match d with | ⟨0, _⟩ => rfl | ⟨1, _⟩ => rfl | ⟨2, _⟩ => rfl
  have e5 : idx_main_v44 (idx_main_v45 (ix3 b o i)) = ix1 o := by
    funext d; match d with | ⟨0, _⟩ => rfl
  rw [val_main_v46_apply, val_main_v43_apply, e, val_main_v42_apply, val_main_v45_apply, val_main_v44_apply, e5]
  have hl : ∀ c : Fin 512, lidx_main_v42 (ix3 b i o) c = ix3 b c i := fun c => by
    funext d; match d with | ⟨0, _⟩ => rfl | ⟨1, _⟩ => rfl | ⟨2, _⟩ => rfl
  have hr : ∀ c : Fin 512, ridx_main_v42 (ix3 b i o) c = ix2 o c := fun c => by
    funext d; match d with | ⟨0, _⟩ => rfl | ⟨1, _⟩ => rfl
  have s : ∑ c : Fin 512, val_main_v41 (F := Ideal) x0 x1 x2 x3 (lidx_main_v42 (ix3 b i o) c) * x4 (ridx_main_v42 (ix3 b i o) c)
      = (∑ c : Fin 256, x4 (ix2 o (c.castAdd 256)) * rinterp (dist x0 x1) (fun b c k => x3 (ix3 b c k)) b c i)
        + ∑ c : Fin 256, x4 (ix2 o (c.natAdd 256)) * x2 (ix3 b c i) := by
    refine Eq.trans (Fin.sum_univ_add (a := 256) (b := 256) (fun c : Fin 512 =>
      val_main_v41 (F := Ideal) x0 x1 x2 x3 (lidx_main_v42 (ix3 b i o) c) * x4 (ridx_main_v42 (ix3 b i o) c))) ?_
    refine congrArg₂ (· + ·) (Finset.sum_congr rfl fun c _ => ?_) (Finset.sum_congr rfl fun c _ => ?_)
    · rw [hl, hr, v41_left, mul_comm]
    · rw [hl, hr, v41_right, mul_comm]
  rw [s]
  rfl

end Cert.ReferenceIdeal.Term
-- ==== Proof.RefNorm.lean ====
/- The reference's batch norm with rectifier, of any features. -/
module

public import proofs.«01_k».proof.Proof.RefInterp

@[expose] public section

noncomputable section

namespace Cert.ReferenceIdeal.Term

open Cert.ReferenceIdeal Cert.ReferenceIdeal.Gen Cert.ReferenceIdeal.Read Cert.Value
open Idealize.ShloMosaic Idealize.ShloMosaic.ValueIdx Idealize.ShloMosaic.TcCoe Idealize.SL.Sem Idealize.ShloMosaic.StableHlo

/-- The channel of an element. -/
theorem drop_eq (i : S16x256x4096.Idx) : reducesTo_S16x256x4096_S256_d0_2.drop i = ix1 (i 1) := by
  funext d; match d with | ⟨0, _⟩ => rfl

/-- A sum over batches and points, channel by channel. -/
theorem chan_apply (y : S16x256x4096.Idx → EReal) (init : S_.Idx → EReal) (o : Fin 256) :
    Host.reduceAdd (F := Ideal) (φ := .f32) y init reducesTo_S16x256x4096_S256_d0_2 h_S_ (ix1 o)
      = init (Shape.Idx.first h_S_) + ∑ p : Fin 16 × Fin 4096, y (ix3 p.1 o p.2) := by
  simp only [Host.reduceAdd, Ideal.hostReduceAdd_def]
  unfold Ideal.hostReduceAdd
  refine congrArg (_ + ·) ?_
  refine Finset.sum_bij' (fun i _ => ((i 0 : Fin 16), (i 2 : Fin 4096))) (fun p _ => ix3 p.1 o p.2) ?_ ?_ ?_ ?_ ?_
  · intro i _; exact Finset.mem_univ _
  · intro p _
    refine Finset.mem_filter.2 ⟨Finset.mem_univ _, ?_⟩
    rw [drop_eq]
    rfl
  · intro i hi
    have h := (Finset.mem_filter.1 hi).2
    rw [drop_eq] at h
    have h1 : (i 1 : Fin 256) = o := congrFun h 0
    rw [← h1]
    exact (eq_ix3 i).symm
  · intro p _; rfl
  · intro i hi
    have h := (Finset.mem_filter.1 hi).2
    rw [drop_eq] at h
    have h1 : (i 1 : Fin 256) = o := congrFun h 0
    rw [← h1]
    exact congrArg y (eq_ix3 i)

section

variable (y : (⟨S16x256x4096, .f32⟩ : BufTy).Contents (Elt Ideal)) (g be : (⟨S256, .f32⟩ : BufTy).Contents (Elt Ideal))

/-- A value per channel over batches and points. -/
def spread (m : (⟨S1x256x1, .f32⟩ : BufTy).Contents (Elt Ideal)) : (⟨S16x256x4096, .f32⟩ : BufTy).Contents (Elt Ideal) :=
  broadcastInDim S16x256x4096 ![0, 1, 2] bcast_S1x256x1_S16x256x4096_0_1_2 m

/-- A channel vector with unit axes. -/
def lift (m : (⟨S256, .f32⟩ : BufTy).Contents (Elt Ideal)) : (⟨S1x256x1, .f32⟩ : BufTy).Contents (Elt Ideal) :=
  broadcastInDim S1x256x1 ![1] bcast_S256_S1x256x1_1 m

/-- The channel sums. -/
def sums : (⟨S1x256x1, .f32⟩ : BufTy).Contents (Elt Ideal) :=
  lift (Host.reduceAdd (F := Ideal) (φ := .f32) y (val_main_cst_7 (F := Ideal)) reducesTo_S16x256x4096_S256_d0_2 h_S_)

/-- The channel means. -/
def mean : (⟨S1x256x1, .f32⟩ : BufTy).Contents (Elt Ideal) := Host.divf (F := Ideal) (φ := .f32) (sums y) (val_main_v49 (F := Ideal))

/-- The deviations from the channel means. -/
def dev : (⟨S16x256x4096, .f32⟩ : BufTy).Contents (Elt Ideal) := subf (F := Ideal) (φ := .f32) y (spread (mean y))

/-- The channel variances. -/
def variance : (⟨S1x256x1, .f32⟩ : BufTy).Contents (Elt Ideal) :=
  select (broadcastInDim S1x256x1 ![] bcast_S_S1x256x1 (val_main_call0_v13 (F := Ideal)))
    (Host.divf (F := Ideal) (φ := .f32) (sums (mulf (F := Ideal) (φ := .f32) (dev y) (dev y))) (val_main_call0_v11 (F := Ideal)))
    (val_main_call0_call0_v1 (F := Ideal))

/-- The batch norm with rectifier. -/
def bn : (⟨S16x256x4096, .f32⟩ : BufTy).Contents (Elt Ideal) :=
  maximumf (F := Ideal) (φ := .f32)
    (addf (F := Ideal) (φ := .f32)
      (mulf (F := Ideal) (φ := .f32)
        (Host.divf (F := Ideal) (φ := .f32) (dev y)
          (spread (Host.sqrt (F := Ideal) (φ := .f32) (addf (F := Ideal) (φ := .f32) (variance y) (val_main_v54 (F := Ideal))))))
        (spread (lift g)))
      (spread (lift be)))
    (val_main_call1_v0 (F := Ideal))

/-- A channel value spread over its channel. -/
theorem spread_apply (m : (⟨S1x256x1, .f32⟩ : BufTy).Contents (Elt Ideal)) (b : Fin 16) (o : Fin 256) (i : Fin 4096) :
    spread m (ix3 b o i) = m (ix3 0 o 0) :=
  broadcastInDim_apply _ bcast_S1x256x1_S16x256x4096_0_1_2 m _ (ix3 0 o 0) (fun a => match a with
    | ⟨0, _⟩ => rfl
    | ⟨1, _⟩ => rfl
    | ⟨2, _⟩ => rfl)

/-- A channel vector as an array with two axes of size one. -/
theorem lift_apply (m : (⟨S256, .f32⟩ : BufTy).Contents (Elt Ideal)) (o : Fin 256) : lift m (ix3 0 o 0) = m (ix1 o) :=
  broadcastInDim_apply _ bcast_S256_S1x256x1_1 m _ (ix1 o) (fun a => match a with
    | ⟨0, _⟩ => rfl)

/-- A channel's sum. -/
theorem sums_apply (o : Fin 256) : sums y (ix3 0 o 0) = ∑ p : Fin 16 × Fin 4096, y (ix3 p.1 o p.2) := by
  unfold sums
  rw [lift_apply]
  refine (chan_apply y _ o).trans ?_
  rw [val_main_cst_7_apply, zero_bits, zero_add]

/-- The number of values in a channel. -/
theorem v49_apply (j : S1x256x1.Idx) : val_main_v49 (F := Ideal) j = cnt := by
  rw [val_main_v49_apply, val_main_cst_8_apply]
  rfl

/-- A channel's mean. -/
theorem mean_apply (o : Fin 256) : mean y (ix3 0 o 0) = Ideal.div (∑ p : Fin 16 × Fin 4096, y (ix3 p.1 o p.2)) cnt := by
  show Ideal.div (sums y (ix3 0 o 0)) (val_main_v49 (F := Ideal) (ix3 0 o 0)) = _
  rw [sums_apply, v49_apply]

/-- An element less its channel's mean. -/
theorem dev_apply (b : Fin 16) (o : Fin 256) (i : Fin 4096) :
    dev y (ix3 b o i) = y (ix3 b o i) - Ideal.div (∑ p : Fin 16 × Fin 4096, y (ix3 p.1 o p.2)) cnt := by
  show y (ix3 b o i) - spread (mean y) (ix3 b o i) = _
  rw [spread_apply, mean_apply]

/-- The divisor of the variance. -/
theorem c8_apply (j : S_.Idx) : val_main_call0_v8 (F := Ideal) j = cnt := by
  rw [val_main_call0_v8_apply, val_main_call0_cst_1_apply, val_main_call0_v7_apply, val_main_c_9_apply]
  show cnt - (((0#32 : BitVec 32).toInt : ℝ) : EReal) = cnt
  simp

/-- The divisor is positive. -/
theorem c13_apply (j : S_.Idx) : val_main_call0_v13 (F := Ideal) j = 1#1 := by
  rw [val_main_call0_v13_apply, c8_apply, val_main_call0_cst_3_apply, zero_bits, Ideal.cmpf_def, cnt_eq]
  show BitVec.ofBool (decide ((0 : EReal) < ((65536 : ℝ) : EReal))) = 1#1
  rw [decide_eq_true (by exact_mod_cast (by norm_num : (0 : ℝ) < 65536))]
  rfl

/-- A channel's variance. -/
theorem variance_apply (o : Fin 256) : variance y (ix3 0 o 0)
    = Ideal.div (∑ p : Fin 16 × Fin 4096, (y (ix3 p.1 o p.2) - Ideal.div (∑ p : Fin 16 × Fin 4096, y (ix3 p.1 o p.2)) cnt)
        * (y (ix3 p.1 o p.2) - Ideal.div (∑ p : Fin 16 × Fin 4096, y (ix3 p.1 o p.2)) cnt)) cnt := by
  show Scalar.select (broadcastInDim S1x256x1 ![] bcast_S_S1x256x1 (val_main_call0_v13 (F := Ideal)) (ix3 0 o 0))
    (Ideal.div (sums (mulf (F := Ideal) (φ := .f32) (dev y) (dev y)) (ix3 0 o 0)) (val_main_call0_v11 (F := Ideal) (ix3 0 o 0)))
    (val_main_call0_call0_v1 (F := Ideal) (ix3 0 o 0)) = _
  rw [broadcastInDim_scalar_apply, c13_apply, val_main_call0_v11_apply, c8_apply, sums_apply]
  refine congrArg (Ideal.div · cnt) (Finset.sum_congr rfl fun p _ => ?_)
  show dev y (ix3 p.1 o p.2) * dev y (ix3 p.1 o p.2) = _
  rw [dev_apply]

/-- The batch norm at an index. -/
theorem bn_apply (b : Fin 16) (o : Fin 256) (i : Fin 4096) :
    bn y g be (ix3 b o i) = rnormed (fun o => g (ix1 o)) (fun o => be (ix1 o)) (fun b o i => y (ix3 b o i)) b o i := by
  show max (Ideal.div (dev y (ix3 b o i))
      (spread (Host.sqrt (F := Ideal) (φ := .f32) (addf (F := Ideal) (φ := .f32) (variance y) (val_main_v54 (F := Ideal)))) (ix3 b o i))
      * spread (lift g) (ix3 b o i) + spread (lift be) (ix3 b o i)) (val_main_call1_v0 (F := Ideal) (ix3 b o i)) = _
  rw [spread_apply, spread_apply, spread_apply, lift_apply, lift_apply, dev_apply, val_main_call1_v0_apply,
    val_main_call1_cst_apply, zero_bits]
  show max (Ideal.div _ (Ideal.sqrt (variance y (ix3 0 o 0) + val_main_v54 (F := Ideal) (ix3 0 o 0))) * _ + _) 0 = _
  rw [variance_apply, val_main_v54_apply, val_main_cst_10_apply]
  rfl

end

section

variable (x0 : (⟨S16x4096x3, .f32⟩ : BufTy).Contents (Elt Ideal)) (x1 : (⟨S16x1024x3, .f32⟩ : BufTy).Contents (Elt Ideal))
  (x2 : (⟨S16x256x4096, .f32⟩ : BufTy).Contents (Elt Ideal)) (x3 : (⟨S16x256x1024, .f32⟩ : BufTy).Contents (Elt Ideal))
  (x4 : (⟨S256x512, .f32⟩ : BufTy).Contents (Elt Ideal)) (x5 x6 x7 : (⟨S256, .f32⟩ : BufTy).Contents (Elt Ideal))
  (x8 : (⟨S256x256, .f32⟩ : BufTy).Contents (Elt Ideal)) (x9 x10 x11 : (⟨S256, .f32⟩ : BufTy).Contents (Elt Ideal))

/-- The first layer's normalisation. -/
theorem v65_eq : val_main_v65 (F := Ideal) x0 x1 x2 x3 x4 x5 x6 x7 = bn (val_main_v46 (F := Ideal) x0 x1 x2 x3 x4 x5) x6 x7 := rfl

/-- The second layer's normalisation. -/
theorem v89_eq : val_main_v89 (F := Ideal) x0 x1 x2 x3 x4 x5 x6 x7 x8 x9 x10 x11
    = bn (val_main_v70 (F := Ideal) x0 x1 x2 x3 x4 x5 x6 x7 x8 x9) x10 x11 := rfl

/-- The features after the first layer and its batch norm. -/
theorem v65_apply (b : Fin 16) (o : Fin 256) (i : Fin 4096) :
    val_main_v65 (F := Ideal) x0 x1 x2 x3 x4 x5 x6 x7 (ix3 b o i)
      = rnormed (fun o => x6 (ix1 o)) (fun o => x7 (ix1 o))
          (layer2 (fun o c => x4 (ix2 o c)) (fun o => x5 (ix1 o)) (rinterp (dist x0 x1) (fun b c k => x3 (ix3 b c k)))
            (fun b c i => x2 (ix3 b c i))) b o i := by
  rw [v65_eq, bn_apply]
  refine congrArg (fun y : Feat => rnormed _ _ y b o i) ?_
  funext b o i
  exact v46_apply x0 x1 x2 x3 x4 x5 b o i

/-- The second layer. -/
theorem v70_apply (b : Fin 16) (o : Fin 256) (i : Fin 4096) :
    val_main_v70 (F := Ideal) x0 x1 x2 x3 x4 x5 x6 x7 x8 x9 (ix3 b o i)
      = layer (fun o c => x8 (ix2 o c)) (fun o => x9 (ix1 o))
          (fun b c i => val_main_v65 (F := Ideal) x0 x1 x2 x3 x4 x5 x6 x7 (ix3 b c i)) b o i := by
  have e : idx_main_v67 (ix3 b o i) = ix3 b i o := by
    funext d; match d with | ⟨0, _⟩ => rfl | ⟨1, _⟩ => rfl | ⟨2, _⟩ => rfl
  have e5 : idx_main_v68 (idx_main_v69 (ix3 b o i)) = ix1 o := by
    funext d; match d with | ⟨0, _⟩ => rfl
  rw [val_main_v70_apply, val_main_v67_apply, e, val_main_v66_apply, val_main_v69_apply, val_main_v68_apply, e5]
  have hl : ∀ c : Fin 256, lidx_main_v66 (ix3 b i o) c = ix3 b c i := fun c => by
    funext d; match d with | ⟨0, _⟩ => rfl | ⟨1, _⟩ => rfl | ⟨2, _⟩ => rfl
  have hr : ∀ c : Fin 256, ridx_main_v66 (ix3 b i o) c = ix2 o c := fun c => by
    funext d; match d with | ⟨0, _⟩ => rfl | ⟨1, _⟩ => rfl
  have s : ∑ c : Fin 256, val_main_v65 (F := Ideal) x0 x1 x2 x3 x4 x5 x6 x7 (lidx_main_v66 (ix3 b i o) c) * x8 (ridx_main_v66 (ix3 b i o) c)
      = ∑ c : Fin 256, x8 (ix2 o c) * val_main_v65 (F := Ideal) x0 x1 x2 x3 x4 x5 x6 x7 (ix3 b c i) :=
    Finset.sum_congr rfl fun c _ => by rw [hl, hr, mul_comm]
  rw [s]
  rfl

/-- The reference's result. -/
theorem v89_apply (b : Fin 16) (o : Fin 256) (i : Fin 4096) :
    val_main_v89 (F := Ideal) x0 x1 x2 x3 x4 x5 x6 x7 x8 x9 x10 x11 (ix3 b o i)
      = rnet (fun b i a => x0 (ix3 b i a)) (fun b k a => x1 (ix3 b k a)) (fun b c i => x2 (ix3 b c i))
          (fun b c k => x3 (ix3 b c k)) (fun o c => x4 (ix2 o c)) (fun o => x5 (ix1 o)) (fun o => x6 (ix1 o))
          (fun o => x7 (ix1 o)) (fun o c => x8 (ix2 o c)) (fun o => x9 (ix1 o)) (fun o => x10 (ix1 o))
          (fun o => x11 (ix1 o)) b o i := by
  have h65 : (fun b c i => val_main_v65 (F := Ideal) x0 x1 x2 x3 x4 x5 x6 x7 (ix3 b c i))
      = rnormed (fun o => x6 (ix1 o)) (fun o => x7 (ix1 o))
          (layer2 (fun o c => x4 (ix2 o c)) (fun o => x5 (ix1 o)) (rinterp (dist x0 x1) (fun b c k => x3 (ix3 b c k)))
            (fun b c i => x2 (ix3 b c i))) := by
    funext b c i
    exact v65_apply x0 x1 x2 x3 x4 x5 x6 x7 b c i
  have h70 : (fun b c i => val_main_v70 (F := Ideal) x0 x1 x2 x3 x4 x5 x6 x7 x8 x9 (ix3 b c i))
      = layer (fun o c => x8 (ix2 o c)) (fun o => x9 (ix1 o))
          (fun b c i => val_main_v65 (F := Ideal) x0 x1 x2 x3 x4 x5 x6 x7 (ix3 b c i)) := by
    funext b c i
    exact v70_apply x0 x1 x2 x3 x4 x5 x6 x7 x8 x9 b c i
  rw [v89_eq, bn_apply, h70, h65]
  rfl

end

end Cert.ReferenceIdeal.Term
-- ==== Proof.Precond.lean ====
/- What the precondition says: different nearest distances, and finite gains. -/
module

public import proofs.«01_k».proof.Proof.Spec
public import proofs.«01_k».proof.Proof.Gen.Pre_nearest_distinct
public import Idealize.ShloMosaic.Lib.ReduceAll
public import Idealize.ShloMosaic.Lib.IdealHost
public import Idealize.ShloMosaic.PureOps.Ideal.Laws

@[expose] public section

noncomputable section

namespace Cert.Pre_nearest_distinct.Term

open Cert.Pre_nearest_distinct Cert.Pre_nearest_distinct.Gen Cert.Value
open Idealize.ShloMosaic Idealize.ShloMosaic.ValueIdx Idealize.ShloMosaic.StableHlo

variable (x0 : S16x4096x3.Idx → EReal) (x1 : S16x1024x3.Idx → EReal)

/-- The squared coordinate differences. -/
def sq : FVec Ideal S16x4096x1024x3 .f32 :=
  let u := broadcastInDim S16x4096x1024x3 ![0, 1, 2, 3] Facts.bcast_S16x4096x1x3_S16x4096x1024x3_0_1_2_3
    (broadcastInDim S16x4096x1x3 ![0, 1, 3] Facts.bcast_S16x4096x3_S16x4096x1x3_0_1_3 x0)
  let k := broadcastInDim S16x4096x1024x3 ![0, 1, 2, 3] Facts.bcast_S16x1x1024x3_S16x4096x1024x3_0_1_2_3
    (broadcastInDim S16x1x1024x3 ![0, 2, 3] Facts.bcast_S16x1024x3_S16x1x1024x3_0_2_3 x1)
  mulf (subf u k) (subf u k)

/-- The negated squared distances. -/
def negd : FVec Ideal S16x4096x1024 .f32 :=
  Host.negf (Host.reduceAdd (sq x0 x1) (constant S_ .f32 0x00000000#32)
    Facts.reducesTo_S16x4096x1024x3_S16x4096x1024_d3 Facts.h_S_)

/-- The four greatest of them. -/
def four : FVec Ideal S16x4096x4 .f32 :=
  (Host.topK S16x4096x4 2 (FloatOps.cmpfTotal .gt) (negd x0 x1) Facts.sliceFits_S16x4096x1024_S16x4096x4).1

/-- Whether they decrease. -/
def strict : IVec S16x4096x3 1 :=
  cmpf .olt (extractStridedSlice S16x4096x3 ![0, 0, 1] (four x0 x1) Facts.slices_S16x4096x4_S16x4096x3_0_0_1)
    (extractStridedSlice S16x4096x3 ![0, 0, 0] (four x0 x1) Facts.slices_S16x4096x4_S16x4096x3_0_0_0)

/-- Whether an element is finite. -/
def finite (g : S256.Idx → EReal) : IVec S256 1 :=
  cmpf (F := Ideal) (φ := .f32) .olt (Host.absf (F := Ideal) (φ := .f32) g)
    (broadcastInDim S256 ![] Facts.bcast_S_S256 (constant S_ .f32 0x7F800000#32))

variable (x2 : S16x256x4096.Idx → EReal) (x3 : S16x256x1024.Idx → EReal) (x4 : S256x512.Idx → EReal)
  (x5 x6 x7 : S256.Idx → EReal) (x8 : S256x256.Idx → EReal) (x9 x10 x11 : S256.Idx → EReal)

/-- The precondition in the terms named here. -/
theorem fn_eq : Cert.Pre_nearest_distinct.fn (F := Ideal) x0 x1 x2 x3 x4 x5 x6 x7 x8 x9 x10 x11
    = andi (andi (Host.reduce IntOp.andi (strict x0 x1) (constantI S_ 1 1#1) Facts.reducesTo_S16x4096x3_S_d0_1_2 Facts.h_S_)
        (Host.reduce IntOp.andi (finite x6) (constantI S_ 1 1#1) Facts.reducesTo_S256_S_d0 Facts.h_S_))
      (Host.reduce IntOp.andi (finite x10) (constantI S_ 1 1#1) Facts.reducesTo_S256_S_d0 Facts.h_S_) := rfl

/-- A squared coordinate difference at an index. -/
theorem sq_apply (b : Fin 16) (i : Fin 4096) (k : Fin 1024) (a : Fin 3) :
    sq x0 x1 (ix4 b i k a) = (x0 (ix3 b i a) - x1 (ix3 b k a)) * (x0 (ix3 b i a) - x1 (ix3 b k a)) := by
  have h0 : broadcastInDim S16x4096x1024x3 ![0, 1, 2, 3] Facts.bcast_S16x4096x1x3_S16x4096x1024x3_0_1_2_3
      (broadcastInDim S16x4096x1x3 ![0, 1, 3] Facts.bcast_S16x4096x3_S16x4096x1x3_0_1_3 x0) (ix4 b i k a) = x0 (ix3 b i a) :=
    (broadcastInDim_apply _ _ _ _ (ix4 b i 0 a) (fun d => match d with
      | ⟨0, _⟩ => rfl | ⟨1, _⟩ => rfl | ⟨2, _⟩ => rfl | ⟨3, _⟩ => rfl)).trans
    (broadcastInDim_apply _ _ _ _ (ix3 b i a) (fun d => match d with
      | ⟨0, _⟩ => rfl | ⟨1, _⟩ => rfl | ⟨2, _⟩ => rfl))
  have h1 : broadcastInDim S16x4096x1024x3 ![0, 1, 2, 3] Facts.bcast_S16x1x1024x3_S16x4096x1024x3_0_1_2_3
      (broadcastInDim S16x1x1024x3 ![0, 2, 3] Facts.bcast_S16x1024x3_S16x1x1024x3_0_2_3 x1) (ix4 b i k a) = x1 (ix3 b k a) :=
    (broadcastInDim_apply _ _ _ _ (ix4 b 0 k a) (fun d => match d with
      | ⟨0, _⟩ => rfl | ⟨1, _⟩ => rfl | ⟨2, _⟩ => rfl | ⟨3, _⟩ => rfl)).trans
    (broadcastInDim_apply _ _ _ _ (ix3 b k a) (fun d => match d with
      | ⟨0, _⟩ => rfl | ⟨1, _⟩ => rfl | ⟨2, _⟩ => rfl))
  exact congrArg₂ (fun u k => (u - k) * (u - k)) h0 h1

/-- The distances of the argument arrays. -/
abbrev dist : Fin 16 → Fin 4096 → Fin 1024 → EReal :=
  d2 (fun b i a => x0 (ix3 b i a)) (fun b k a => x1 (ix3 b k a))

/-- A negated squared distance at an index. -/
theorem negd_apply (b : Fin 16) (i : Fin 4096) (k : Fin 1024) : negd x0 x1 (ix3 b i k) = - dist x0 x1 b i k := by
  show - (Host.reduceAdd (sq x0 x1) (constant S_ .f32 0x00000000#32)
    Facts.reducesTo_S16x4096x1024x3_S16x4096x1024_d3 Facts.h_S_ (ix3 b i k)) = _
  simp only [Host.reduceAdd, Ideal.hostReduceAdd_def]
  rw [Ideal.hostReduceAdd_single Facts.reducesTo_S16x4096x1024x3_S16x4096x1024_d3 (by decide)]
  refine congrArg (- ·) ?_
  refine (congrArg₂ (· + ·) Ideal.ofBits_zero_f32 rfl).trans ((zero_add _).trans ?_)
  refine Finset.sum_congr rfl fun a _ => ?_
  rw [← sq_apply x0 x1 b i k a]
  exact congrArg (sq x0 x1) (funext fun d => Fin.ext (by match d with | ⟨0, _⟩ => rfl | ⟨1, _⟩ => rfl | ⟨2, _⟩ => rfl | ⟨3, _⟩ => rfl))

/-- The `r`-th of the four greatest, by its rank. -/
theorem four_apply (b : Fin 16) (i : Fin 4096) (r : Fin 4) : four x0 x1 (ix3 b i r)
    = - dist x0 x1 b i (rank (fun k => - dist x0 x1 b i k) (r.castLE (by decide))) := by
  have h := topK_values (negd x0 x1) Facts.sliceFits_S16x4096x1024_S16x4096x4 (by decide) b i r
  have e : (fun k => negd x0 x1 (ix3 b i k)) = fun k => - dist x0 x1 b i k := funext fun k => negd_apply x0 x1 b i k
  rw [e, negd_apply] at h
  exact h

/-- The comparison of two neighbours among the four. -/
theorem strict_apply (b : Fin 16) (i : Fin 4096) (j : Fin 3) : strict x0 x1 (ix3 b i j)
    = BitVec.ofBool (decide (- dist x0 x1 b i (rank (fun k => - dist x0 x1 b i k) (j.succ.castLE (by decide)))
        < - dist x0 x1 b i (rank (fun k => - dist x0 x1 b i k) (j.castSucc.castLE (by decide))))) := by
  have h1 : extractStridedSlice S16x4096x3 ![0, 0, 1] (four x0 x1) Facts.slices_S16x4096x4_S16x4096x3_0_0_1 (ix3 b i j)
      = four x0 x1 (ix3 b i j.succ) :=
    extractStridedSlice_apply _ _ _ _ _ (fun d => by
      match d with
      | ⟨0, _⟩ => exact (Nat.zero_add _).symm
      | ⟨1, _⟩ => exact (Nat.zero_add _).symm
      | ⟨2, _⟩ => exact Nat.add_comm _ _)
  have h0 : extractStridedSlice S16x4096x3 ![0, 0, 0] (four x0 x1) Facts.slices_S16x4096x4_S16x4096x3_0_0_0 (ix3 b i j)
      = four x0 x1 (ix3 b i j.castSucc) :=
    extractStridedSlice_apply _ _ _ _ _ (fun d => by
      match d with
      | ⟨0, _⟩ => exact (Nat.zero_add _).symm
      | ⟨1, _⟩ => exact (Nat.zero_add _).symm
      | ⟨2, _⟩ => exact (Nat.zero_add _).symm)
  rw [← four_apply, ← four_apply, ← h1, ← h0]
  rfl

/-- The bit of a proposition is one only if it holds. -/
theorem ofBool_one {p : Prop} [Decidable p] (h : BitVec.ofBool (decide p) = 1#1) : p := by
  by_contra hp
  rw [decide_eq_false hp] at h
  exact absurd h (by decide)

/-- A gain whose test gives one is a real number. -/
theorem finite_apply (g : S256.Idx → EReal) (o : S256.Idx) (h : finite g o = 1#1) : ∃ r : ℝ, g o = (r : EReal) := by
  have e : finite g o = BitVec.ofBool (decide (max (g o) (- g o) < Ideal.ofBits .f32 0x7F800000#32)) := by
    unfold finite
    rw [ValueIdx.cmpf_apply, broadcastInDim_scalar_apply]
    rfl
  rw [e] at h
  have ht : Ideal.ofBits .f32 0x7F800000#32 = (⊤ : EReal) := by simp [Ideal.ofBits, Ideal.ieee]
  have hp := ofBool_one h
  rw [ht] at hp
  induction hx : g o using EReal.rec with
  | bot => rw [hx] at hp; simp at hp
  | top => rw [hx] at hp; simp at hp
  | coe r => exact ⟨r, rfl⟩

/-- A conjunction of two bits is one only if both are. -/
theorem and_one {x y : BitVec 1} (h : IntOp.andi x y = 1#1) : x = 1#1 ∧ y = 1#1 := by
  revert x y; decide

/-- The precondition all ones: different nearest distances, and finite gains. -/
theorem decode (h : ∀ j, Cert.Pre_nearest_distinct.fn (F := Ideal) x0 x1 x2 x3 x4 x5 x6 x7 x8 x9 x10 x11 j = 1#1) :
    (∀ b i, Distinct (dist x0 x1 b i)) ∧ (∀ o : Fin 256, ∃ r : ℝ, x6 (ix1 o) = (r : EReal))
      ∧ ∀ o : Fin 256, ∃ r : ℝ, x10 (ix1 o) = (r : EReal) := by
  have h' := h (Shape.Idx.first Facts.h_S_)
  rw [fn_eq] at h'
  obtain ⟨h2, h10⟩ := and_one h'
  obtain ⟨hs, h6⟩ := and_one h2
  haveI : Subsingleton S_.Idx := ⟨fun a b => funext fun d => d.elim0⟩
  refine ⟨fun b i j => ?_, fun o => ?_, fun o => ?_⟩
  · have := Host.reduce_andi_all _ _ _ _ _ hs (ix3 b i j)
    rw [strict_apply] at this
    exact ofBool_one this
  · exact finite_apply x6 _ (Host.reduce_andi_all _ _ _ _ _ h6 (ix1 o))
  · exact finite_apply x10 _ (Host.reduce_andi_all _ _ _ _ _ h10 (ix1 o))

end Cert.Pre_nearest_distinct.Term
-- ==== Proof.Algebraic.lean ====
/- The kernel and the reference over the extended reals end with the same result, wherever the four nearest known points
   of each unknown point are at strictly increasing distances and the normalisation gains are real numbers. -/
module

public import proofs.«01_k».proof.Defs
public import proofs.«01_k».proof.Proof.KernelRun
public import proofs.«01_k».proof.Proof.Result
public import proofs.«01_k».proof.Proof.RefNorm
public import proofs.«01_k».proof.Proof.Precond

@[expose] public section

set_option maxRecDepth 16384

noncomputable section

namespace Cert.Proof

open Cert.Value
open Idealize.ShloMosaic Idealize.ShloMosaic.TcCoe Idealize.ShloMosaic.ValueIdx Idealize.SL.Sem

/-- Under the precondition the kernel's result buffer ends at what the reference computes from the same arguments. -/
theorem kernel_eq (m : (ℓ : Loc Cert.KernelIdeal.nD Cert.KernelIdeal.τ Cert.KernelIdeal.sig) → Buf (Elt Ideal) ℓ)
    (g : Dev Cert.KernelIdeal.nD → PrngReg) (c : Dev Cert.KernelIdeal.nD) (h : Cert.Pre_KernelIdeal_nearest_distinct m) :
    Cert.KernelIdeal.Gen.W6 m g c (Proc.devRef .tc Cert.KernelIdeal.main_v37)
      = Cert.ReferenceIdeal.Read.val_main_v89 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))
          (m ((c : Thread Cert.KernelIdeal.nD Cert.KernelIdeal.τ).loc Cert.KernelIdeal.main_arg10))
          (m ((c : Thread Cert.KernelIdeal.nD Cert.KernelIdeal.τ).loc Cert.KernelIdeal.main_arg11)) := by
  obtain ⟨hd, h0, h1⟩ := Cert.Pre_nearest_distinct.Term.decode _ _ _ _ _ _ _ _ _ _ _ _ fun j => congrFun (h c) j
  refine funext fun (j : Cert.KernelIdeal.S16x256x4096.Idx) => ?_
  have ej : j = ix3 (j 0) (j 1) (j 2) := eq_ix3 j
  rw [ej]
  refine (Cert.KernelIdeal.Result.result m g c (j 0) (j 1) (j 2)).trans ?_
  rw [knet_eq_rnet]
  · exact (Cert.ReferenceIdeal.Term.v89_apply _ _ _ _ _ _ _ _ _ _ _ _ (j 0) (j 1) (j 2)).symm
  · exact hd
  · exact h0
  · exact h1

/-- The two programs end with equal results and unchanged arguments. -/
theorem algebraic : Cert.algebraic_KernelIdeal_ReferenceIdeal_pre_nearest_distinct := by
  intro m g m' g' h hm
  refine ⟨fun c => Cert.KernelIdeal.Gen.W6 m g c (Proc.devRef .tc Cert.KernelIdeal.main_v37), Cert.KernelIdeal.Value.run_result m g, ?_⟩
  refine (θ_run Cert.ReferenceIdeal.defs _ _).mono (fun r hr c => ?_) (Cert.ReferenceIdeal.Value.run m' g')
  obtain ⟨hv, ha⟩ := hr c
  refine ⟨?_, ha⟩
  refine (hv.trans (Cert.ReferenceIdeal.Read.val_main_v89_eq (StableHlo.launchContents m' c))).trans ?_
  refine Eq.trans ?_ (kernel_eq m g c h).symm
  obtain ⟨e0, e1, e2, e3, e4, e5, e6, e7, e8, e9, e10, e11⟩ := hm c
  rw [← e0, ← e1, ← e2, ← e3, ← e4, ← e5, ← e6, ← e7, ← e8, ← e9, ← e10, ← e11]

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_nearest_distinct
public import proofs.«01_k».proof.Proof.Algebraic

@[expose] public section

noncomputable section

namespace Cert.Proof

open Idealize.ShloMosaic Idealize.SL.Sem

/-- The reference runs to the end, keeps its arguments and holds no semaphore. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run m ρ)

/-- Everything claimed. -/
theorem claim : Cert.Claim :=
  ⟨Cert.Kernel.Gen.facts, Cert.KernelIdeal.Gen.facts, Cert.ReferenceIdeal.Gen.facts, Cert.Pre_nearest_distinct.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
